-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v359) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x1024 : Shape := ⟨3, ![2, 8192, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S1024x2816 : Shape := ⟨2, ![1024, 2816]⟩
abbrev S2816x1024 : Shape := ⟨2, ![2816, 1024]⟩
abbrev S128x4 : Shape := ⟨2, ![128, 4]⟩
abbrev S128x4x128 : Shape := ⟨3, ![128, 4, 128]⟩
abbrev S128x512 : Shape := ⟨2, ![128, 512]⟩
abbrev S1x1024 : Shape := ⟨2, ![1, 1024]⟩
abbrev S1x512 : Shape := ⟨2, ![1, 512]⟩
abbrev S1x512x1024 : Shape := ⟨3, ![1, 512, 1024]⟩
abbrev S4x544x128 : Shape := ⟨3, ![4, 544, 128]⟩
abbrev S512x512 : Shape := ⟨2, ![512, 512]⟩
abbrev S512x1024 : Shape := ⟨2, ![512, 1024]⟩
abbrev S4x32x128 : Shape := ⟨3, ![4, 32, 128]⟩
abbrev S512x1 : Shape := ⟨2, ![512, 1]⟩
abbrev S512x2048 : Shape := ⟨2, ![512, 2048]⟩
abbrev S128x128 : Shape := ⟨2, ![128, 128]⟩
abbrev S1x128x128 : Shape := ⟨3, ![1, 128, 128]⟩
abbrev S512x128 : Shape := ⟨2, ![512, 128]⟩
abbrev S1x512x128 : Shape := ⟨3, ![1, 512, 128]⟩
abbrev S64x128 : Shape := ⟨2, ![64, 128]⟩
abbrev S1x64x128 : Shape := ⟨3, ![1, 64, 128]⟩
abbrev S1x128 : Shape := ⟨2, ![1, 128]⟩
abbrev S1x32x128 : Shape := ⟨3, ![1, 32, 128]⟩
abbrev S32x128 : Shape := ⟨2, ![32, 128]⟩
abbrev S512x2816 : Shape := ⟨2, ![512, 2816]⟩

abbrev nBuf : Space → Nat
  | .hbm => 34
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2048, .f32⟩
  | .hbm, ⟨3, _⟩ => ⟨S512, .f32⟩
  | .hbm, ⟨4, _⟩ => ⟨S512, .f32⟩
  | .hbm, ⟨5, _⟩ => ⟨S4x128x128, .f32⟩
  | .hbm, ⟨6, _⟩ => ⟨S4x128, .f32⟩
  | .hbm, ⟨7, _⟩ => ⟨S31x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S1024x1024, .f32⟩
  | .hbm, ⟨12, _⟩ => ⟨S1024, .f32⟩
  | .hbm, ⟨13, _⟩ => ⟨S1024x2816, .f32⟩
  | .hbm, ⟨14, _⟩ => ⟨S1024x2816, .f32⟩
  | .hbm, ⟨15, _⟩ => ⟨S2816x1024, .f32⟩
  | .hbm, ⟨16, _⟩ => ⟨S1024, .f32⟩
  | .hbm, ⟨17, _⟩ => ⟨S128x4, .f32⟩
  | .hbm, ⟨18, _⟩ => ⟨S128x4x128, .f32⟩
  | .hbm, ⟨19, _⟩ => ⟨S128x512, .f32⟩
  | .hbm, ⟨20, _⟩ => ⟨S1x1024, .f32⟩
  | .hbm, ⟨21, _⟩ => ⟨S1024x2048, .bf16⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1024x1024, .bf16⟩
  | .hbm, ⟨28, _⟩ => ⟨S1x1024, .f32⟩
  | .hbm, ⟨29, _⟩ => ⟨S1024x2816, .bf16⟩
  | .hbm, ⟨30, _⟩ => ⟨S1024x2816, .bf16⟩
  | .hbm, ⟨31, _⟩ => ⟨S2816x1024, .bf16⟩
  | .hbm, ⟨32, _⟩ => ⟨S1x1024, .f32⟩
  | .hbm, ⟨33, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2048, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x512, .f32⟩
  | .local _ .vmem, ⟨8, _⟩ => ⟨S31x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1024x2816, .bf16⟩
  | .local _ .vmem, ⟨15, _⟩ => ⟨S1024x2816, .bf16⟩
  | .local _ .vmem, ⟨16, _⟩ => ⟨S2816x1024, .bf16⟩
  | .local _ .vmem, ⟨17, _⟩ => ⟨S1x1024, .f32⟩
  | .local _ .vmem, ⟨18, _⟩ => ⟨S1x512x1024, .f32⟩
  | .local _ .vmem, ⟨19, _⟩ => ⟨S1x512x1024, .f32⟩
  | .local _ .vmem, ⟨20, _⟩ => ⟨S4x544x128, .f32⟩
  | .local _ .vmem, ⟨21, _⟩ => ⟨S512x512, .f32⟩
  | .local _ .vmem, ⟨22, _⟩ => ⟨S512x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_103 : BitVec 32 := 0#32
  let c8_i32 : BitVec 32 := 8#32
  let v322 : BitVec 32 := Scalar.addi c0_i32_103 c8_i32
  let c1_i32_104 : BitVec 32 := 1#32
  ⟨c0_i32_103, v322, c1_i32_104⟩
def k0_mult1 (k0_t1 : Fin k0_t1_loop.trips) : BitVec 32 :=
  let c0_i32_103 : BitVec 32 := 0#32
  let c1_i32_104 : BitVec 32 := 1#32
  let arg23 : BitVec 32 := Scf.iv c0_i32_103 c1_i32_104 k0_t1
  let c64_i32_189 : BitVec 32 := 64#32
  let v444 : BitVec 32 := Scalar.muli arg23 c64_i32_189
  v444
def k0_off1 (k0_t1 : Fin k0_t1_loop.trips) (c0_i32_191 : BitVec 32) : Fin 3 → Nat :=
  let c0_192 : Index := 0#32
  let c0_i32_103 : BitVec 32 := 0#32
  let c1_i32_104 : BitVec 32 := 1#32
  let arg23 : BitVec 32 := Scf.iv c0_i32_103 c1_i32_104 k0_t1
  let c64_i32_189 : BitVec 32 := 64#32
  let v444 : BitVec 32 := Scalar.muli arg23 c64_i32_189
  let v445 : BitVec 32 := v444
  let c2_i32 : BitVec 32 := 2#32
  let v447 : BitVec 32 := Scalar.addi v445 c2_i32
  let v448 : BitVec 32 := Scalar.addi v447 c0_i32_191
  let v449 : Index := Scalar.indexCast v448
  let c0_193 : Index := 0#32
  ![0, v449.toNat, 0]
def k0_off2 (k0_t1 : Fin k0_t1_loop.trips) : Fin 2 → Nat :=
  let c0_i32_103 : BitVec 32 := 0#32
  let c1_i32_104 : BitVec 32 := 1#32
  let arg23 : BitVec 32 := Scf.iv c0_i32_103 c1_i32_104 k0_t1
  let c64_i32_189 : BitVec 32 := 64#32
  let v444 : BitVec 32 := Scalar.muli arg23 c64_i32_189
  let v445 : BitVec 32 := v444
  let v726 : Index := Scalar.indexCast v445
  let c0_322 : Index := 0#32
  ![v726.toNat, 0]
@[reducible] def k0_t2_loop : Scf.Loop 32 :=
  let c0_i32_111 : BitVec 32 := 0#32
  let c8_i32_112 : BitVec 32 := 8#32
  let v328 : BitVec 32 := Scalar.addi c0_i32_111 c8_i32_112
  let c1_i32_113 : BitVec 32 := 1#32
  ⟨c0_i32_111, v328, c1_i32_113⟩
def k0_mult2 (k0_t2 : Fin k0_t2_loop.trips) : BitVec 32 :=
  let c0_i32_111 : BitVec 32 := 0#32
  let c1_i32_113 : BitVec 32 := 1#32
  let arg23 : BitVec 32 := Scf.iv c0_i32_111 c1_i32_113 k0_t2
  let c64_i32_189 : BitVec 32 := 64#32
  let v444 : BitVec 32 := Scalar.muli arg23 c64_i32_189
  v444
def k0_off3 (k0_t2 : Fin k0_t2_loop.trips) (c0_i32_191 : BitVec 32) : Fin 3 → Nat :=
  let c1_192 : Index := 1#32
  let c0_i32_111 : BitVec 32 := 0#32
  let c1_i32_113 : BitVec 32 := 1#32
  let arg23 : BitVec 32 := Scf.iv c0_i32_111 c1_i32_113 k0_t2
  let c64_i32_189 : BitVec 32 := 64#32
  let v444 : BitVec 32 := Scalar.muli arg23 c64_i32_189
  let v445 : BitVec 32 := v444
  let c2_i32 : BitVec 32 := 2#32
  let v447 : BitVec 32 := Scalar.addi v445 c2_i32
  let v448 : BitVec 32 := Scalar.addi v447 c0_i32_191
  let v449 : Index := Scalar.indexCast v448
  let c0_193 : Index := 0#32
  ![1, v449.toNat, 0]
def k0_off4 (k0_t2 : Fin k0_t2_loop.trips) : Fin 2 → Nat :=
  let c0_i32_111 : BitVec 32 := 0#32
  let c1_i32_113 : BitVec 32 := 1#32
  let arg23 : BitVec 32 := Scf.iv c0_i32_111 c1_i32_113 k0_t2
  let c64_i32_189 : BitVec 32 := 64#32
  let v444 : BitVec 32 := Scalar.muli arg23 c64_i32_189
  let v445 : BitVec 32 := v444
  let v726 : Index := Scalar.indexCast v445
  let c128_322 : Index := 128#32
  ![v726.toNat, 128]
@[reducible] def k0_t3_loop : Scf.Loop 32 :=
  let c0_i32_121 : BitVec 32 := 0#32
  let c8_i32_122 : BitVec 32 := 8#32
  let v334 : BitVec 32 := Scalar.addi c0_i32_121 c8_i32_122
  let c1_i32_123 : BitVec 32 := 1#32
  ⟨c0_i32_121, v334, c1_i32_123⟩
def k0_mult3 (k0_t3 : Fin k0_t3_loop.trips) : BitVec 32 :=
  let c0_i32_121 : BitVec 32 := 0#32
  let c1_i32_123 : BitVec 32 := 1#32
  let arg23 : BitVec 32 := Scf.iv c0_i32_121 c1_i32_123 k0_t3
  let c64_i32_189 : BitVec 32 := 64#32
  let v444 : BitVec 32 := Scalar.muli arg23 c64_i32_189
  v444
def k0_off5 (k0_t3 : Fin k0_t3_loop.trips) (c0_i32_191 : BitVec 32) : Fin 3 → Nat :=
  let c2_192 : Index := 2#32
  let c0_i32_121 : BitVec 32 := 0#32
  let c1_i32_123 : BitVec 32 := 1#32
  let arg23 : BitVec 32 := Scf.iv c0_i32_121 c1_i32_123 k0_t3
  let c64_i32_189 : BitVec 32 := 64#32
  let v444 : BitVec 32 := Scalar.muli arg23 c64_i32_189
  let v445 : BitVec 32 := v444
  let c2_i32 : BitVec 32 := 2#32
  let v447 : BitVec 32 := Scalar.addi v445 c2_i32
  let v448 : BitVec 32 := Scalar.addi v447 c0_i32_191
  let v449 : Index := Scalar.indexCast v448
  let c0_193 : Index := 0#32
  ![2, v449.toNat, 0]
def k0_off6 (k0_t3 : Fin k0_t3_loop.trips) : Fin 2 → Nat :=
  let c0_i32_121 : BitVec 32 := 0#32
  let c1_i32_123 : BitVec 32 := 1#32
  let arg23 : BitVec 32 := Scf.iv c0_i32_121 c1_i32_123 k0_t3
  let c64_i32_189 : BitVec 32 := 64#32
  let v444 : BitVec 32 := Scalar.muli arg23 c64_i32_189
  let v445 : BitVec 32 := v444
  let v726 : Index := Scalar.indexCast v445
  let c256_322 : Index := 256#32
  ![v726.toNat, 256]
@[reducible] def k0_t4_loop : Scf.Loop 32 :=
  let c0_i32_131 : BitVec 32 := 0#32
  let c8_i32_132 : BitVec 32 := 8#32
  let v340 : BitVec 32 := Scalar.addi c0_i32_131 c8_i32_132
  let c1_i32_133 : BitVec 32 := 1#32
  ⟨c0_i32_131, v340, c1_i32_133⟩
def k0_mult4 (k0_t4 : Fin k0_t4_loop.trips) : BitVec 32 :=
  let c0_i32_131 : BitVec 32 := 0#32
  let c1_i32_133 : BitVec 32 := 1#32
  let arg23 : BitVec 32 := Scf.iv c0_i32_131 c1_i32_133 k0_t4
  let c64_i32_189 : BitVec 32 := 64#32
  let v444 : BitVec 32 := Scalar.muli arg23 c64_i32_189
  v444
def k0_off7 (k0_t4 : Fin k0_t4_loop.trips) (c0_i32_191 : BitVec 32) : Fin 3 → Nat :=
  let c3_192 : Index := 3#32
  let c0_i32_131 : BitVec 32 := 0#32
  let c1_i32_133 : BitVec 32 := 1#32
  let arg23 : BitVec 32 := Scf.iv c0_i32_131 c1_i32_133 k0_t4
  let c64_i32_189 : BitVec 32 := 64#32
  let v444 : BitVec 32 := Scalar.muli arg23 c64_i32_189
  let v445 : BitVec 32 := v444
  let c2_i32 : BitVec 32 := 2#32
  let v447 : BitVec 32 := Scalar.addi v445 c2_i32
  let v448 : BitVec 32 := Scalar.addi v447 c0_i32_191
  let v449 : Index := Scalar.indexCast v448
  let c0_193 : Index := 0#32
  ![3, v449.toNat, 0]
def k0_off8 (k0_t4 : Fin k0_t4_loop.trips) : Fin 2 → Nat :=
  let c0_i32_131 : BitVec 32 := 0#32
  let c1_i32_133 : BitVec 32 := 1#32
  let arg23 : BitVec 32 := Scf.iv c0_i32_131 c1_i32_133 k0_t4
  let c64_i32_189 : BitVec 32 := 64#32
  let v444 : BitVec 32 := Scalar.muli arg23 c64_i32_189
  let v445 : BitVec 32 := v444
  let v726 : Index := Scalar.indexCast v445
  let c384_322 : Index := 384#32
  ![v726.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S2x8192x1024 : Shape := ⟨3, ![2, 8192, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2048 : Shape := ⟨3, ![2, 8192, 2048]⟩
abbrev S2x8192x512 : Shape := ⟨3, ![2, 8192, 512]⟩
abbrev S1x1x512 : Shape := ⟨3, ![1, 1, 512]⟩
abbrev S2x64x128x4x128 : Shape := ⟨5, ![2, 64, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S4x2x64x128x128 : Shape := ⟨5, ![4, 2, 64, 128, 128]⟩
abbrev S128x4 : Shape := ⟨2, ![128, 4]⟩
abbrev S1x1x128x4x1 : Shape := ⟨5, ![1, 1, 128, 4, 1]⟩
abbrev S2x8222x512 : Shape := ⟨3, ![2, 8222, 512]⟩
abbrev S1x512 : Shape := ⟨2, ![1, 512]⟩
abbrev S2x8192x2816 : Shape := ⟨3, ![2, 8192, 2816]⟩

abbrev nBuf : Space → Nat
  | .hbm => 441
  | .vmem => 0
  | .smem => 0
  | _ => 0

abbrev hbmTy0_0 (i : Nat) : BufTy := match i % 128 with
  | 0 => ⟨S2x8192x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S1024, .f32⟩
  | 13 => ⟨S1024x2816, .f32⟩
  | 14 => ⟨S1024x2816, .f32⟩
  | 15 => ⟨S2816x1024, .f32⟩
  | 16 => ⟨S1024, .f32⟩
  | 17 => ⟨S2x8192x1024, .f32⟩
  | 18 => ⟨S_, .f32⟩
  | 19 => ⟨S2x8192, .f32⟩
  | 20 => ⟨S2x8192x1, .f32⟩
  | 21 => ⟨S_, .f32⟩
  | 22 => ⟨S2x8192x1, .f32⟩
  | 23 => ⟨S2x8192x1, .f32⟩
  | 24 => ⟨S_, .f32⟩
  | 25 => ⟨S2x8192x1, .f32⟩
  | 26 => ⟨S2x8192x1, .f32⟩
  | 27 => ⟨S2x8192x1, .f32⟩
  | 28 => ⟨S2x8192x1024, .f32⟩
  | 29 => ⟨S2x8192x1024, .f32⟩
  | 30 => ⟨S1x1x1024, .f32⟩
  | 31 => ⟨S2x8192x1024, .f32⟩
  | 32 => ⟨S2x8192x1024, .f32⟩
  | 33 => ⟨S2x8192x2048, .f32⟩
  | 34 => ⟨S2x8192x1024, .f32⟩
  | 35 => ⟨S2x8192x1024, .f32⟩
  | 36 => ⟨S2x8192x1024, .f32⟩
  | 37 => ⟨S2x8192x1024, .f32⟩
  | 38 => ⟨S_, .f32⟩
  | 39 => ⟨S2x8192x1024, .f32⟩
  | 40 => ⟨S2x8192x1024, .f32⟩
  | 41 => ⟨S2x8192x1024, .f32⟩
  | 42 => ⟨S_, .f32⟩
  | 43 => ⟨S2x8192x1024, .f32⟩
  | 44 => ⟨S2x8192x1024, .f32⟩
  | 45 => ⟨S2x8192x1024, .f32⟩
  | 46 => ⟨S_, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S2x8192x1024, .f32⟩
  | 53 => ⟨S2x8192x512, .f32⟩
  | 54 => ⟨S2x8192x512, .f32⟩
  | 55 => ⟨S_, .f32⟩
  | 56 => ⟨S2x8192, .f32⟩
  | 57 => ⟨S2x8192x1, .f32⟩
  | 58 => ⟨S_, .f32⟩
  | 59 => ⟨S2x8192x1, .f32⟩
  | 60 => ⟨S2x8192x1, .f32⟩
  | 61 => ⟨S2x8192x512, .f32⟩
  | 62 => ⟨S2x8192x512, .f32⟩
  | 63 => ⟨S2x8192x512, .f32⟩
  | 64 => ⟨S_, .f32⟩
  | 65 => ⟨S2x8192, .f32⟩
  | 66 => ⟨S2x8192x1, .f32⟩
  | 67 => ⟨S_, .f32⟩
  | 68 => ⟨S2x8192x1, .f32⟩
  | 69 => ⟨S2x8192x1, .f32⟩
  | 70 => ⟨S_, .f32⟩
  | 71 => ⟨S2x8192x1, .f32⟩
  | 72 => ⟨S2x8192x1, .f32⟩
  | 73 => ⟨S2x8192x1, .f32⟩
  | 74 => ⟨S2x8192x512, .f32⟩
  | 75 => ⟨S2x8192x512, .f32⟩
  | 76 => ⟨S1x1x512, .f32⟩
  | 77 => ⟨S2x8192x512, .f32⟩
  | 78 => ⟨S2x8192x512, .f32⟩
  | 79 => ⟨S1x1x512, .f32⟩
  | 80 => ⟨S2x8192x512, .f32⟩
  | 81 => ⟨S2x8192x512, .f32⟩
  | 82 => ⟨S2x64x128x4x128, .f32⟩
  | 83 => ⟨S128, .i32⟩
  | 84 => ⟨S_, .i32⟩
  | 85 => ⟨S_, .i32⟩
  | 86 => ⟨S128, .i32⟩
  | 87 => ⟨S128, .i32⟩
  | 88 => ⟨S128, .i32⟩
  | 89 => ⟨S_, .i32⟩
  | 90 => ⟨S128, .i32⟩
  | 91 => ⟨S128, .i1⟩
  | 92 => ⟨S128, .i32⟩
  | 93 => ⟨S128, .i32⟩
  | 94 => ⟨S_, .i32⟩
  | 95 => ⟨S128, .i32⟩
  | 96 => ⟨S128, .i1⟩
  | 97 => ⟨S128, .i1⟩
  | 98 => ⟨S_, .i32⟩
  | 99 => ⟨S128, .i32⟩
  | 100 => ⟨S128, .i32⟩
  | 101 => ⟨S128, .i32⟩
  | 102 => ⟨S1x128, .i32⟩
  | 103 => ⟨S128x1, .i32⟩
  | 104 => ⟨S128x128, .i32⟩
  | 105 => ⟨S128x128, .i32⟩
  | 106 => ⟨S128x128, .i1⟩
  | 107 => ⟨S1x128x128, .i1⟩
  | 108 => ⟨S_, .f32⟩
  | 109 => ⟨S4x128x128, .i1⟩
  | 110 => ⟨S4x128x128, .f32⟩
  | 111 => ⟨S4x128x128, .f32⟩
  | 112 => ⟨S4x2x64x128x128, .f32⟩
  | 113 => ⟨S2x64x128x4x128, .f32⟩
  | 114 => ⟨S128x4, .f32⟩
  | 115 => ⟨S1x1x128x4x1, .f32⟩
  | 116 => ⟨S2x64x128x4x128, .f32⟩
  | 117 => ⟨S2x64x128x4x128, .f32⟩
  | 118 => ⟨S2x8192x512, .f32⟩
  | 119 => ⟨S2x8192x512, .f32⟩
  | 120 => ⟨S2x8192x512, .f32⟩
  | 121 => ⟨S2x8192x512, .f32⟩
  | 122 => ⟨S2x8192x512, .f32⟩
  | 123 => ⟨S2x8192x512, .f32⟩
  | 124 => ⟨S_, .f32⟩
  | 125 => ⟨S2x8192x512, .f32⟩
  | 126 => ⟨S2x8192x512, .f32⟩
  | 127 => ⟨S_, .f32⟩
  | _ => ⟨S2x8192x1024, .f32⟩

abbrev hbmTy0_1 (i : Nat) : BufTy := match i % 128 with
  | 0 => ⟨S2x8192x512, .f32⟩
  | 1 => ⟨S2x8192x512, .f32⟩
  | 2 => ⟨S2x8192x512, .f32⟩
  | 3 => ⟨S_, .i32⟩
  | 4 => ⟨S_, .f32⟩
  | 5 => ⟨S2x8222x512, .f32⟩
  | 6 => ⟨S2x8192x512, .f32⟩
  | 7 => ⟨S1x512, .f32⟩
  | 8 => ⟨S512, .f32⟩
  | 9 => ⟨S1x1x512, .f32⟩
  | 10 => ⟨S2x8192x512, .f32⟩
  | 11 => ⟨S2x8192x512, .f32⟩
  | 12 => ⟨S_, .f32⟩
  | 13 => ⟨S2x8192x512, .f32⟩
  | 14 => ⟨S2x8192x512, .f32⟩
  | 15 => ⟨S2x8192x512, .f32⟩
  | 16 => ⟨S1x512, .f32⟩
  | 17 => ⟨S512, .f32⟩
  | 18 => ⟨S1x1x512, .f32⟩
  | 19 => ⟨S2x8192x512, .f32⟩
  | 20 => ⟨S2x8192x512, .f32⟩
  | 21 => ⟨S2x8192x512, .f32⟩
  | 22 => ⟨S2x8192x512, .f32⟩
  | 23 => ⟨S1x512, .f32⟩
  | 24 => ⟨S512, .f32⟩
  | 25 => ⟨S1x1x512, .f32⟩
  | 26 => ⟨S2x8192x512, .f32⟩
  | 27 => ⟨S2x8192x512, .f32⟩
  | 28 => ⟨S2x8192x512, .f32⟩
  | 29 => ⟨S2x8192x512, .f32⟩
  | 30 => ⟨S1x512, .f32⟩
  | 31 => ⟨S512, .f32⟩
  | 32 => ⟨S1x1x512, .f32⟩
  | 33 => ⟨S2x8192x512, .f32⟩
  | 34 => ⟨S2x8192x512, .f32⟩
  | 35 => ⟨S2x8192x512, .f32⟩
  | 36 => ⟨S2x8192x512, .f32⟩
  | 37 => ⟨S1x512, .f32⟩
  | 38 => ⟨S512, .f32⟩
  | 39 => ⟨S1x1x512, .f32⟩
  | 40 => ⟨S2x8192x512, .f32⟩
  | 41 => ⟨S2x8192x512, .f32⟩
  | 42 => ⟨S2x8192x512, .f32⟩
  | 43 => ⟨S2x8192x512, .f32⟩
  | 44 => ⟨S1x512, .f32⟩
  | 45 => ⟨S512, .f32⟩
  | 46 => ⟨S1x1x512, .f32⟩
  | 47 => ⟨S2x8192x512, .f32⟩
  | 48 => ⟨S2x8192x512, .f32⟩
  | 49 => ⟨S2x8192x512, .f32⟩
  | 50 => ⟨S2x8192x512, .f32⟩
  | 51 => ⟨S1x512, .f32⟩
  | 52 => ⟨S512, .f32⟩
  | 53 => ⟨S1x1x512, .f32⟩
  | 54 => ⟨S2x8192x512, .f32⟩
  | 55 => ⟨S2x8192x512, .f32⟩
  | 56 => ⟨S2x8192x512, .f32⟩
  | 57 => ⟨S2x8192x512, .f32⟩
  | 58 => ⟨S1x512, .f32⟩
  | 59 => ⟨S512, .f32⟩
  | 60 => ⟨S1x1x512, .f32⟩
  | 61 => ⟨S2x8192x512, .f32⟩
  | 62 => ⟨S2x8192x512, .f32⟩
  | 63 => ⟨S2x8192x512, .f32⟩
  | 64 => ⟨S2x8192x512, .f32⟩
  | 65 => ⟨S1x512, .f32⟩
  | 66 => ⟨S512, .f32⟩
  | 67 => ⟨S1x1x512, .f32⟩
  | 68 => ⟨S2x8192x512, .f32⟩
  | 69 => ⟨S2x8192x512, .f32⟩
  | 70 => ⟨S2x8192x512, .f32⟩
  | 71 => ⟨S2x8192x512, .f32⟩
  | 72 => ⟨S1x512, .f32⟩
  | 73 => ⟨S512, .f32⟩
  | 74 => ⟨S1x1x512, .f32⟩
  | 75 => ⟨S2x8192x512, .f32⟩
  | 76 => ⟨S2x8192x512, .f32⟩
  | 77 => ⟨S2x8192x512, .f32⟩
  | 78 => ⟨S2x8192x512, .f32⟩
  | 79 => ⟨S1x512, .f32⟩
  | 80 => ⟨S512, .f32⟩
  | 81 => ⟨S1x1x512, .f32⟩
  | 82 => ⟨S2x8192x512, .f32⟩
  | 83 => ⟨S2x8192x512, .f32⟩
  | 84 => ⟨S2x8192x512, .f32⟩
  | 85 => ⟨S2x8192x512, .f32⟩
  | 86 => ⟨S1x512, .f32⟩
  | 87 => ⟨S512, .f32⟩
  | 88 => ⟨S1x1x512, .f32⟩
  | 89 => ⟨S2x8192x512, .f32⟩
  | 90 => ⟨S2x8192x512, .f32⟩
  | 91 => ⟨S2x8192x512, .f32⟩
  | 92 => ⟨S2x8192x512, .f32⟩
  | 93 => ⟨S1x512, .f32⟩
  | 94 => ⟨S512, .f32⟩
  | 95 => ⟨S1x1x512, .f32⟩
  | 96 => ⟨S2x8192x512, .f32⟩
  | 97 => ⟨S2x8192x512, .f32⟩
  | 98 => ⟨S2x8192x512, .f32⟩
  | 99 => ⟨S2x8192x512, .f32⟩
  | 100 => ⟨S1x512, .f32⟩
  | 101 => ⟨S512, .f32⟩
  | 102 => ⟨S1x1x512, .f32⟩
  | 103 => ⟨S2x8192x512, .f32⟩
  | 104 => ⟨S2x8192x512, .f32⟩
  | 105 => ⟨S2x8192x512, .f32⟩
  | 106 => ⟨S2x8192x512, .f32⟩
  | 107 => ⟨S1x512, .f32⟩
  | 108 => ⟨S512, .f32⟩
  | 109 => ⟨S1x1x512, .f32⟩
  | 110 => ⟨S2x8192x512, .f32⟩
  | 111 => ⟨S2x8192x512, .f32⟩
  | 112 => ⟨S2x8192x512, .f32⟩
  | 113 => ⟨S2x8192x512, .f32⟩
  | 114 => ⟨S1x512, .f32⟩
  | 115 => ⟨S512, .f32⟩
  | 116 => ⟨S1x1x512, .f32⟩
  | 117 => ⟨S2x8192x512, .f32⟩
  | 118 => ⟨S2x8192x512, .f32⟩
  | 119 => ⟨S2x8192x512, .f32⟩
  | 120 => ⟨S2x8192x512, .f32⟩
  | 121 => ⟨S1x512, .f32⟩
  | 122 => ⟨S512, .f32⟩
  | 123 => ⟨S1x1x512, .f32⟩
  | 124 => ⟨S2x8192x512, .f32⟩
  | 125 => ⟨S2x8192x512, .f32⟩
  | 126 => ⟨S2x8192x512, .f32⟩
  | 127 => ⟨S2x8192x512, .f32⟩
  | _ => ⟨S2x8192x1024, .f32⟩

abbrev hbmTy0_2 (i : Nat) : BufTy := match i % 128 with
  | 0 => ⟨S1x512, .f32⟩
  | 1 => ⟨S512, .f32⟩
  | 2 => ⟨S1x1x512, .f32⟩
  | 3 => ⟨S2x8192x512, .f32⟩
  | 4 => ⟨S2x8192x512, .f32⟩
  | 5 => ⟨S2x8192x512, .f32⟩
  | 6 => ⟨S2x8192x512, .f32⟩
  | 7 => ⟨S1x512, .f32⟩
  | 8 => ⟨S512, .f32⟩
  | 9 => ⟨S1x1x512, .f32⟩
  | 10 => ⟨S2x8192x512, .f32⟩
  | 11 => ⟨S2x8192x512, .f32⟩
  | 12 => ⟨S2x8192x512, .f32⟩
  | 13 => ⟨S2x8192x512, .f32⟩
  | 14 => ⟨S1x512, .f32⟩
  | 15 => ⟨S512, .f32⟩
  | 16 => ⟨S1x1x512, .f32⟩
  | 17 => ⟨S2x8192x512, .f32⟩
  | 18 => ⟨S2x8192x512, .f32⟩
  | 19 => ⟨S2x8192x512, .f32⟩
  | 20 => ⟨S2x8192x512, .f32⟩
  | 21 => ⟨S1x512, .f32⟩
  | 22 => ⟨S512, .f32⟩
  | 23 => ⟨S1x1x512, .f32⟩
  | 24 => ⟨S2x8192x512, .f32⟩
  | 25 => ⟨S2x8192x512, .f32⟩
  | 26 => ⟨S2x8192x512, .f32⟩
  | 27 => ⟨S2x8192x512, .f32⟩
  | 28 => ⟨S1x512, .f32⟩
  | 29 => ⟨S512, .f32⟩
  | 30 => ⟨S1x1x512, .f32⟩
  | 31 => ⟨S2x8192x512, .f32⟩
  | 32 => ⟨S2x8192x512, .f32⟩
  | 33 => ⟨S2x8192x512, .f32⟩
  | 34 => ⟨S2x8192x512, .f32⟩
  | 35 => ⟨S1x512, .f32⟩
  | 36 => ⟨S512, .f32⟩
  | 37 => ⟨S1x1x512, .f32⟩
  | 38 => ⟨S2x8192x512, .f32⟩
  | 39 => ⟨S2x8192x512, .f32⟩
  | 40 => ⟨S2x8192x512, .f32⟩
  | 41 => ⟨S2x8192x512, .f32⟩
  | 42 => ⟨S1x512, .f32⟩
  | 43 => ⟨S512, .f32⟩
  | 44 => ⟨S1x1x512, .f32⟩
  | 45 => ⟨S2x8192x512, .f32⟩
  | 46 => ⟨S2x8192x512, .f32⟩
  | 47 => ⟨S2x8192x512, .f32⟩
  | 48 => ⟨S2x8192x512, .f32⟩
  | 49 => ⟨S1x512, .f32⟩
  | 50 => ⟨S512, .f32⟩
  | 51 => ⟨S1x1x512, .f32⟩
  | 52 => ⟨S2x8192x512, .f32⟩
  | 53 => ⟨S2x8192x512, .f32⟩
  | 54 => ⟨S2x8192x512, .f32⟩
  | 55 => ⟨S2x8192x512, .f32⟩
  | 56 => ⟨S1x512, .f32⟩
  | 57 => ⟨S512, .f32⟩
  | 58 => ⟨S1x1x512, .f32⟩
  | 59 => ⟨S2x8192x512, .f32⟩
  | 60 => ⟨S2x8192x512, .f32⟩
  | 61 => ⟨S2x8192x512, .f32⟩
  | 62 => ⟨S2x8192x512, .f32⟩
  | 63 => ⟨S1x512, .f32⟩
  | 64 => ⟨S512, .f32⟩
  | 65 => ⟨S1x1x512, .f32⟩
  | 66 => ⟨S2x8192x512, .f32⟩
  | 67 => ⟨S2x8192x512, .f32⟩
  | 68 => ⟨S2x8192x512, .f32⟩
  | 69 => ⟨S2x8192x512, .f32⟩
  | 70 => ⟨S1x512, .f32⟩
  | 71 => ⟨S512, .f32⟩
  | 72 => ⟨S1x1x512, .f32⟩
  | 73 => ⟨S2x8192x512, .f32⟩
  | 74 => ⟨S2x8192x512, .f32⟩
  | 75 => ⟨S2x8192x512, .f32⟩
  | 76 => ⟨S2x8192x512, .f32⟩
  | 77 => ⟨S1x512, .f32⟩
  | 78 => ⟨S512, .f32⟩
  | 79 => ⟨S1x1x512, .f32⟩
  | 80 => ⟨S2x8192x512, .f32⟩
  | 81 => ⟨S2x8192x512, .f32⟩
  | 82 => ⟨S2x8192x512, .f32⟩
  | 83 => ⟨S2x8192x512, .f32⟩
  | 84 => ⟨S1x512, .f32⟩
  | 85 => ⟨S512, .f32⟩
  | 86 => ⟨S1x1x512, .f32⟩
  | 87 => ⟨S2x8192x512, .f32⟩
  | 88 => ⟨S2x8192x512, .f32⟩
  | 89 => ⟨S2x8192x512, .f32⟩
  | 90 => ⟨S2x8192x512, .f32⟩
  | 91 => ⟨S1x512, .f32⟩
  | 92 => ⟨S512, .f32⟩
  | 93 => ⟨S1x1x512, .f32⟩
  | 94 => ⟨S2x8192x512, .f32⟩
  | 95 => ⟨S2x8192x512, .f32⟩
  | 96 => ⟨S2x8192x512, .f32⟩
  | 97 => ⟨S1x1x512, .f32⟩
  | 98 => ⟨S2x8192x512, .f32⟩
  | 99 => ⟨S2x8192x512, .f32⟩
  | 100 => ⟨S_, .f32⟩
  | 101 => ⟨S2x8192, .f32⟩
  | 102 => ⟨S2x8192x1, .f32⟩
  | 103 => ⟨S_, .f32⟩
  | 104 => ⟨S2x8192x1, .f32⟩
  | 105 => ⟨S2x8192x1, .f32⟩
  | 106 => ⟨S2x8192x512, .f32⟩
  | 107 => ⟨S2x8192x512, .f32⟩
  | 108 => ⟨S2x8192x512, .f32⟩
  | 109 => ⟨S_, .f32⟩
  | 110 => ⟨S2x8192, .f32⟩
  | 111 => ⟨S2x8192x1, .f32⟩
  | 112 => ⟨S_, .f32⟩
  | 113 => ⟨S2x8192x1, .f32⟩
  | 114 => ⟨S2x8192x1, .f32⟩
  | 115 => ⟨S_, .f32⟩
  | 116 => ⟨S2x8192x1, .f32⟩
  | 117 => ⟨S2x8192x1, .f32⟩
  | 118 => ⟨S2x8192x1, .f32⟩
  | 119 => ⟨S2x8192x512, .f32⟩
  | 120 => ⟨S2x8192x512, .f32⟩
  | 121 => ⟨S1x1x512, .f32⟩
  | 122 => ⟨S2x8192x512, .f32⟩
  | 123 => ⟨S2x8192x512, .f32⟩
  | 124 => ⟨S1x1x512, .f32⟩
  | 125 => ⟨S2x8192x512, .f32⟩
  | 126 => ⟨S2x8192x512, .f32⟩
  | 127 => ⟨S2x8192x512, .f32⟩
  | _ => ⟨S2x8192x1024, .f32⟩

abbrev hbmTy0_3 (i : Nat) : BufTy := match i % 128 with
  | 0 => ⟨S2x8192x512, .f32⟩
  | 1 => ⟨S_, .f32⟩
  | 2 => ⟨S2x8192x512, .f32⟩
  | 3 => ⟨S2x8192x512, .f32⟩
  | 4 => ⟨S_, .f32⟩
  | 5 => ⟨S2x8192x512, .f32⟩
  | 6 => ⟨S2x8192x512, .f32⟩
  | 7 => ⟨S2x8192x512, .f32⟩
  | 8 => ⟨S2x8192x1024, .f32⟩
  | 9 => ⟨S2x8192x1024, .f32⟩
  | 10 => ⟨S2x8192x1024, .f32⟩
  | 11 => ⟨S2x8192x1024, .f32⟩
  | 12 => ⟨S_, .f32⟩
  | 13 => ⟨S2x8192, .f32⟩
  | 14 => ⟨S2x8192x1, .f32⟩
  | 15 => ⟨S_, .f32⟩
  | 16 => ⟨S2x8192x1, .f32⟩
  | 17 => ⟨S2x8192x1, .f32⟩
  | 18 => ⟨S_, .f32⟩
  | 19 => ⟨S2x8192x1, .f32⟩
  | 20 => ⟨S2x8192x1, .f32⟩
  | 21 => ⟨S2x8192x1, .f32⟩
  | 22 => ⟨S2x8192x1024, .f32⟩
  | 23 => ⟨S2x8192x1024, .f32⟩
  | 24 => ⟨S1x1x1024, .f32⟩
  | 25 => ⟨S2x8192x1024, .f32⟩
  | 26 => ⟨S2x8192x1024, .f32⟩
  | 27 => ⟨S2x8192x2816, .f32⟩
  | 28 => ⟨S2x8192x2816, .f32⟩
  | 29 => ⟨S2x8192x2816, .f32⟩
  | 30 => ⟨S_, .f32⟩
  | 31 => ⟨S2x8192x2816, .f32⟩
  | 32 => ⟨S2x8192x2816, .f32⟩
  | 33 => ⟨S_, .f32⟩
  | 34 => ⟨S2x8192x2816, .f32⟩
  | 35 => ⟨S2x8192x2816, .f32⟩
  | 36 => ⟨S2x8192x2816, .f32⟩
  | 37 => ⟨S2x8192x2816, .f32⟩
  | 38 => ⟨S2x8192x2816, .f32⟩
  | 39 => ⟨S2x8192x1024, .f32⟩
  | 40 => ⟨S2x8192x1024, .f32⟩
  | 41 => ⟨S2x8192x1024, .f32⟩
  | 42 => ⟨S_, .f32⟩
  | 43 => ⟨S2x8192, .f32⟩
  | 44 => ⟨S2x8192x1, .f32⟩
  | 45 => ⟨S_, .f32⟩
  | 46 => ⟨S2x8192x1, .f32⟩
  | 47 => ⟨S2x8192x1, .f32⟩
  | 48 => ⟨S_, .f32⟩
  | 49 => ⟨S2x8192x1, .f32⟩
  | 50 => ⟨S2x8192x1, .f32⟩
  | 51 => ⟨S2x8192x1, .f32⟩
  | 52 => ⟨S2x8192x1024, .f32⟩
  | 53 => ⟨S2x8192x1024, .f32⟩
  | 54 => ⟨S1x1x1024, .f32⟩
  | 55 => ⟨S2x8192x1024, .f32⟩
  | 56 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_cst_1 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_8 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_cst_10 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_cst_11 : Ref sig .tc := ⟨.hbm, 108, rfl⟩
abbrev main_call1_v0 : Ref sig .tc := ⟨.hbm, 109, rfl⟩
abbrev main_call1_v1 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_cst_12 : Ref sig .tc := ⟨.hbm, 124, rfl⟩
abbrev main_v75 : Ref sig .tc := ⟨.hbm, 125, rfl⟩
abbrev main_v76 : Ref sig .tc := ⟨.hbm, 126, rfl⟩
abbrev main_cst_13 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_c_14 : Ref sig .tc := ⟨.hbm, 131, rfl⟩
abbrev main_call2_v0 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_cst_15 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_v183 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_v260 : Ref sig .tc := ⟨.hbm, 314, rfl⟩
abbrev main_v261 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_cst_16 : Ref sig .tc := ⟨.hbm, 356, rfl⟩
abbrev main_v302 : Ref sig .tc := ⟨.hbm, 357, rfl⟩
abbrev main_v303 : Ref sig .tc := ⟨.hbm, 358, rfl⟩
abbrev main_cst_17 : Ref sig .tc := ⟨.hbm, 359, rfl⟩
abbrev main_v304 : Ref sig .tc := ⟨.hbm, 360, rfl⟩
abbrev main_v305 : Ref sig .tc := ⟨.hbm, 361, rfl⟩
abbrev main_v306 : Ref sig .tc := ⟨.hbm, 362, rfl⟩
abbrev main_v307 : Ref sig .tc := ⟨.hbm, 363, rfl⟩
abbrev main_v308 : Ref sig .tc := ⟨.hbm, 364, rfl⟩
abbrev main_cst_18 : Ref sig .tc := ⟨.hbm, 365, rfl⟩
abbrev main_v309 : Ref sig .tc := ⟨.hbm, 366, rfl⟩
abbrev main_v310 : Ref sig .tc := ⟨.hbm, 367, rfl⟩
abbrev main_cst_19 : Ref sig .tc := ⟨.hbm, 368, rfl⟩
abbrev main_v311 : Ref sig .tc := ⟨.hbm, 369, rfl⟩
abbrev main_v312 : Ref sig .tc := ⟨.hbm, 370, rfl⟩
abbrev main_cst_20 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_call3_v0 : Ref sig .tc := ⟨.hbm, 383, rfl⟩
abbrev main_call3_v1 : Ref sig .tc := ⟨.hbm, 384, rfl⟩
abbrev main_call3_cst : Ref sig .tc := ⟨.hbm, 385, rfl⟩
abbrev main_call3_v2 : Ref sig .tc := ⟨.hbm, 386, rfl⟩
abbrev main_call3_v3 : Ref sig .tc := ⟨.hbm, 387, rfl⟩
abbrev main_call3_cst_0 : Ref sig .tc := ⟨.hbm, 388, rfl⟩
abbrev main_call3_v4 : Ref sig .tc := ⟨.hbm, 389, rfl⟩
abbrev main_call3_v5 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_cst_21 : Ref sig .tc := ⟨.hbm, 396, rfl⟩
abbrev main_v329 : Ref sig .tc := ⟨.hbm, 397, rfl⟩
abbrev main_v330 : Ref sig .tc := ⟨.hbm, 398, rfl⟩
abbrev main_cst_22 : Ref sig .tc := ⟨.hbm, 399, rfl⟩
abbrev main_v331 : Ref sig .tc := ⟨.hbm, 400, rfl⟩
abbrev main_v332 : Ref sig .tc := ⟨.hbm, 401, rfl⟩
abbrev main_cst_23 : Ref sig .tc := ⟨.hbm, 402, rfl⟩
abbrev main_v333 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_v337 : Ref sig .tc := ⟨.hbm, 407, rfl⟩
abbrev main_v338 : Ref sig .tc := ⟨.hbm, 408, rfl⟩
abbrev main_v339 : Ref sig .tc := ⟨.hbm, 409, rfl⟩
abbrev main_v340 : Ref sig .tc := ⟨.hbm, 410, rfl⟩
abbrev main_v341 : Ref sig .tc := ⟨.hbm, 411, rfl⟩
abbrev main_call4_v0 : Ref sig .tc := ⟨.hbm, 412, rfl⟩
abbrev main_call4_v1 : Ref sig .tc := ⟨.hbm, 413, rfl⟩
abbrev main_call4_cst : Ref sig .tc := ⟨.hbm, 414, rfl⟩
abbrev main_call4_v2 : Ref sig .tc := ⟨.hbm, 415, rfl⟩
abbrev main_call4_v3 : Ref sig .tc := ⟨.hbm, 416, rfl⟩
abbrev main_call4_cst_0 : Ref sig .tc := ⟨.hbm, 417, rfl⟩
abbrev main_call4_v4 : Ref sig .tc := ⟨.hbm, 418, rfl⟩
abbrev main_call4_v5 : Ref sig .tc := ⟨.hbm, 419, rfl⟩
abbrev main_v342 : Ref sig .tc := ⟨.hbm, 420, rfl⟩
abbrev main_v343 : Ref sig .tc := ⟨.hbm, 421, rfl⟩
abbrev main_v344 : Ref sig .tc := ⟨.hbm, 422, rfl⟩
abbrev main_v345 : Ref sig .tc := ⟨.hbm, 423, rfl⟩
abbrev main_v346 : Ref sig .tc := ⟨.hbm, 424, rfl⟩
abbrev main_v347 : Ref sig .tc := ⟨.hbm, 425, rfl⟩
abbrev main_cst_24 : Ref sig .tc := ⟨.hbm, 426, rfl⟩
abbrev main_v348 : Ref sig .tc := ⟨.hbm, 427, rfl⟩
abbrev main_v349 : Ref sig .tc := ⟨.hbm, 428, rfl⟩
abbrev main_cst_25 : Ref sig .tc := ⟨.hbm, 429, rfl⟩
abbrev main_v350 : Ref sig .tc := ⟨.hbm, 430, rfl⟩
abbrev main_v351 : Ref sig .tc := ⟨.hbm, 431, rfl⟩
abbrev main_cst_26 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩

abbrev nD : Nat := 1
abbrev τ : Topo := Topo.v7x

variable {F : FTy → Type} [FloatOps F]
-- ==== Proof.RunB.lean ====
module

public import proofs.«01_k».proof.Proof.Gen.KernelIdeal.Frame
public import proofs.«01_k».proof.Proof.Gen.KernelIdeal.Loops

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first tile of a sequence, as the body tests it. -/
abbrev cond0_0 (i : grid0.Coords) : Prop := (Scalar.cmpi .ne (Scalar.extui (Scalar.cmpi .eq (BitVec.ofNat 32 (i 1).val) 0#32)) 0#32) = 1#1

set_option maxHeartbeats 2000000 in
/-- The body at a point that is not a sequence's first tile, run once for any reading of the floats: the result tile it
    leaves (`1`, over what the convolution's buffer held before) and the stores it makes into the carried buffer (`2.1`),
    with the triple: the inputs' staging buffers are left as they were. -/
noncomputable def runB (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (hc0 : ¬cond0_0 i)
    (x0 : Vec F S1x512x1024 .f32) (x1 : Vec F S1x1024 .f32) (x2 : Vec F S1024x2048 .bf16) (x3 : Vec F S1x512 .f32) (x4 : Vec F S1x512 .f32) (x5 : Vec F S4x128x128 .f32) (x6 : Vec F S128x512 .f32) (x7 : Vec F S31x512 .f32) (x8 : Vec F S1x512 .f32) (x9 : Vec F S1x512 .f32) (x10 : Vec F S1x512 .f32) (x11 : Vec F S1024x1024 .bf16) (x12 : Vec F S1x1024 .f32) (x13 : Vec F S1024x2816 .bf16) (x14 : Vec F S1024x2816 .bf16) (x15 : Vec F S2816x1024 .bf16) (x16 : Vec F S1x1024 .f32) (xs0 : Vec F S4x544x128 .f32) :
    Σ' (LO : arg21.view.ty.Contents (Elt F) → List (View.Piece (Elt F) S1x512x1024 .f32)) (LS0 : List (View.Piece (Elt F) S4x544x128 .f32)),
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) arg20 fullShare xs0 ∗ (∃ d, owns (c : Thread nD τ) arg21 fullShare d) ∗ (∃ d, owns (c : Thread nD τ) arg22 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ g f, arg19.view.loc (c : Thread nD τ) ↦[arg19.view.set]{fullShare} arg19.view.writes (Elt F) f (LO g)) ∗ (∃ f, arg20.view.loc (c : Thread nD τ) ↦[arg20.view.set]{fullShare} arg20.view.writes (Elt F) f LS0) ∗ (∃ d, owns (c : Thread nD τ) arg21 fullShare d) ∗ (∃ d, owns (c : Thread nD τ) arg22 fullShare d)) -∗ K ⟨⟩))
          ⊢ wp frame (wpE (defs₀ (F := F)) Variants.none c none) E (cc0_hybrid_block i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  refine ⟨?_, ?_, fun E K => ?run⟩
  case run =>
    simp only [cc0_hybrid_block_eq_skeleton]; unfold cc0_hybrid_block_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg20.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]; · iexists fs1, _; iexact H17
    isplitl [HS0]; · iexists _; iexact HS0
    isplitl [HS1]
    · iexists _, _; isplitr; swap; · iexact HS1
      ipureintro; rfl
    iexists _, _; isplitr; swap; · iexact HS2
    ipureintro; rfl

end Cert.KernelIdeal.Gen

end
-- ==== Proof.KLaunch.lean ====
module

public import proofs.«01_k».proof.Proof.RunA
public import proofs.«01_k».proof.Proof.RunB
public import Idealize.ShloMosaic.Lib.Claim

/-! The launch, over any float values: the proof data, the body at every point, what the launch leaves.

It takes three things: `T`, the result tile of a point; `K`, what is known of the carried buffer before a point; and `b`,
whether the result is forgotten. A frame forgets the result and knows nothing of the carried buffer; the value keeps both. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's branch is taken at the points ≡ 0 (mod 16): the first tile of each sequence. -/
theorem cond0_iff : ∀ t : Fin cfg0.N, cond0_0 (grid0.coords t) ↔ t.val % 16 = 0 :=
  (fun t => by
    have ht : t.val < 32 := Nat.lt_of_lt_of_eq t.isLt N_0
    have e1 : (grid0.coords t 1).val = t.val / 1 % 16 := Pipeline.Grid.coords_val t 1 (by decide) rfl
    simp only [cond0_0, e1]
    word_cmp
   : ∀ t : Fin grid0.N, cond0_0 (grid0.coords t) ↔ t.val % 16 = 0)

/-- The body's triple: from what it reads, `x0` … `x16`, and the carried buffer at `d`, to the stores `LO` and `LS`. -/
def Run (c : Dev nD) (t : Fin cfg0.N) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (x0 : Vec F S1x512x1024 .f32) (x1 : Vec F S1x1024 .f32) (x2 : Vec F S1024x2048 .bf16) (x3 : Vec F S1x512 .f32) (x4 : Vec F S1x512 .f32) (x5 : Vec F S4x128x128 .f32) (x6 : Vec F S128x512 .f32) (x7 : Vec F S31x512 .f32) (x8 : Vec F S1x512 .f32) (x9 : Vec F S1x512 .f32) (x10 : Vec F S1x512 .f32) (x11 : Vec F S1024x1024 .bf16) (x12 : Vec F S1x1024 .f32) (x13 : Vec F S1024x2816 .bf16) (x14 : Vec F S1024x2816 .bf16) (x15 : Vec F S2816x1024 .bf16) (x16 : Vec F S1x1024 .f32)
    (d : Vec F S4x544x128 .f32)
    (LO : arg21.view.ty.Contents (Elt F) → List (View.Piece (Elt F) S1x512x1024 .f32)) (LS : List (View.Piece (Elt F) S4x544x128 .f32)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ owns (c : Thread nD τ) arg20 fullShare d ∗ (∃ d, owns (c : Thread nD τ) arg21 fullShare d) ∗ (∃ d, owns (c : Thread nD τ) arg22 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ g f, arg19.view.loc (c : Thread nD τ) ↦[arg19.view.set]{fullShare} arg19.view.writes (Elt F) f (LO g)) ∗ (∃ f, arg20.view.loc (c : Thread nD τ) ↦[arg20.view.set]{fullShare} arg20.view.writes (Elt F) f LS) ∗ (∃ d, owns (c : Thread nD τ) arg21 fullShare d) ∗ (∃ d, owns (c : Thread nD τ) arg22 fullShare d)) -∗ K ⟨⟩))
      ⊢ wp frame (wpE (defs₀ (F := F)) Variants.none c none) E (cc0_hybrid_block (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K

namespace Launch

variable (T : Dev nD → Fin cfg0.N → Vec F S1x512x1024 .f32) (K : Dev nD → ℕ → Vec F S4x544x128 .f32 → Prop) (b : Bool)

/-- At every point, from what is known of the carried buffer, the body runs, leaves the point's tile (unless forgotten), and
leaves the carried buffer as known before the next point. -/
def Steps : Prop :=
  ∀ (t : Fin cfg0.N) (c : Dev nD) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (d : Vec F S4x544x128 .f32), K c t.val d →
    ∃ LO LS, Run c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d LO LS
      ∧ (b = false → ∀ g f, arg19.view.read (Elt F) (arg19.view.writes (Elt F) f (LO g)) = T c t)
      ∧ ∀ f, K c (t.val + 1) (arg20.view.read (Elt F) (arg20.view.writes (Elt F) f LS))

/-- The windows forgotten: the result's, where `b` says so. -/
def fgt : Fin 18 → Bool := fun w => w.val == 17 && b

/-- The region's invariant before point `n`: the carried buffer as known there, the other scratch buffers at anything. -/
def PhiS (c : Dev nD) (n : ℕ) : sProp 𝕄 :=
  iprop(iprop((∃ d, ⌜K c n d⌝ ∗ owns (c : Thread nD τ) (Memref.whole cc0_scratch0) fullShare d)
    ∗ (∃ d, owns (c : Thread nD τ) (Memref.whole cc0_scratch1) fullShare d) ∗ (∃ d, owns (c : Thread nD τ) (Memref.whole cc0_scratch2) fullShare d))
    ∗ (∃ r, prngReg c r))

theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The pipeline's proof data: each input's buffer at its block, the result's at the point's tile. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => T c t
    | ⟨_ + 18, h⟩ => absurd h (Nat.not_lt.2 (Nat.le_add_left _ _))
  Φ t := PhiS K c t.val
  q _ := fullShare
  owed _ := 0

theorem A_eq (c : Dev nD) (w : Fin cfg0.W) : (dats m T K 0 c).A w = V m c (Pipeline.arrRef spec0 w) := by
  dsimp only [dats]

theorem after0_0 (c : Dev nD) (t : Fin cfg0.N) : (dats m T K 0 c).after 0 t = iblk m c 0 t := by dsimp only [dats]
theorem before0_0 (c : Dev nD) (t : Fin cfg0.N) (d) : (dats m T K 0 c).before 0 t d = iblk m c 0 t :=
  before0_0_of m (dats m T K 0 c) (A_eq m T K c 0) (after0_0 m T K c) t d
theorem after0_1 (c : Dev nD) (t : Fin cfg0.N) : (dats m T K 0 c).after 1 t = iblk m c 1 t := by dsimp only [dats]
theorem before0_1 (c : Dev nD) (t : Fin cfg0.N) (d) : (dats m T K 0 c).before 1 t d = iblk m c 1 t :=
  before0_1_of m (dats m T K 0 c) (A_eq m T K c 1) (after0_1 m T K c) t d
theorem after0_2 (c : Dev nD) (t : Fin cfg0.N) : (dats m T K 0 c).after 2 t = iblk m c 2 t := by dsimp only [dats]
theorem before0_2 (c : Dev nD) (t : Fin cfg0.N) (d) : (dats m T K 0 c).before 2 t d = iblk m c 2 t :=
  before0_2_of m (dats m T K 0 c) (A_eq m T K c 2) (after0_2 m T K c) t d
theorem after0_3 (c : Dev nD) (t : Fin cfg0.N) : (dats m T K 0 c).after 3 t = iblk m c 3 t := by dsimp only [dats]
theorem before0_3 (c : Dev nD) (t : Fin cfg0.N) (d) : (dats m T K 0 c).before 3 t d = iblk m c 3 t :=
  before0_3_of m (dats m T K 0 c) (A_eq m T K c 3) (after0_3 m T K c) t d
theorem after0_4 (c : Dev nD) (t : Fin cfg0.N) : (dats m T K 0 c).after 4 t = iblk m c 4 t := by dsimp only [dats]
theorem before0_4 (c : Dev nD) (t : Fin cfg0.N) (d) : (dats m T K 0 c).before 4 t d = iblk m c 4 t :=
  before0_4_of m (dats m T K 0 c) (A_eq m T K c 4) (after0_4 m T K c) t d
theorem after0_5 (c : Dev nD) (t : Fin cfg0.N) : (dats m T K 0 c).after 5 t = iblk m c 5 t := by dsimp only [dats]
theorem before0_5 (c : Dev nD) (t : Fin cfg0.N) (d) : (dats m T K 0 c).before 5 t d = iblk m c 5 t :=
  before0_5_of m (dats m T K 0 c) (A_eq m T K c 5) (after0_5 m T K c) t d
theorem after0_6 (c : Dev nD) (t : Fin cfg0.N) : (dats m T K 0 c).after 6 t = iblk m c 6 t := by dsimp only [dats]
theorem before0_6 (c : Dev nD) (t : Fin cfg0.N) (d) : (dats m T K 0 c).before 6 t d = iblk m c 6 t :=
  before0_6_of m (dats m T K 0 c) (A_eq m T K c 6) (after0_6 m T K c) t d
theorem after0_7 (c : Dev nD) (t : Fin cfg0.N) : (dats m T K 0 c).after 7 t = iblk m c 7 t := by dsimp only [dats]
theorem before0_7 (c : Dev nD) (t : Fin cfg0.N) (d) : (dats m T K 0 c).before 7 t d = iblk m c 7 t :=
  before0_7_of m (dats m T K 0 c) (A_eq m T K c 7) (after0_7 m T K c) t d
theorem after0_8 (c : Dev nD) (t : Fin cfg0.N) : (dats m T K 0 c).after 8 t = iblk m c 8 t := by dsimp only [dats]
theorem before0_8 (c : Dev nD) (t : Fin cfg0.N) (d) : (dats m T K 0 c).before 8 t d = iblk m c 8 t :=
  before0_8_of m (dats m T K 0 c) (A_eq m T K c 8) (after0_8 m T K c) t d
theorem after0_9 (c : Dev nD) (t : Fin cfg0.N) : (dats m T K 0 c).after 9 t = iblk m c 9 t := by dsimp only [dats]
theorem before0_9 (c : Dev nD) (t : Fin cfg0.N) (d) : (dats m T K 0 c).before 9 t d = iblk m c 9 t :=
  before0_9_of m (dats m T K 0 c) (A_eq m T K c 9) (after0_9 m T K c) t d
theorem after0_10 (c : Dev nD) (t : Fin cfg0.N) : (dats m T K 0 c).after 10 t = iblk m c 10 t := by dsimp only [dats]
theorem before0_10 (c : Dev nD) (t : Fin cfg0.N) (d) : (dats m T K 0 c).before 10 t d = iblk m c 10 t :=
  before0_10_of m (dats m T K 0 c) (A_eq m T K c 10) (after0_10 m T K c) t d
theorem after0_11 (c : Dev nD) (t : Fin cfg0.N) : (dats m T K 0 c).after 11 t = iblk m c 11 t := by dsimp only [dats]
theorem before0_11 (c : Dev nD) (t : Fin cfg0.N) (d) : (dats m T K 0 c).before 11 t d = iblk m c 11 t :=
  before0_11_of m (dats m T K 0 c) (A_eq m T K c 11) (after0_11 m T K c) t d
theorem after0_12 (c : Dev nD) (t : Fin cfg0.N) : (dats m T K 0 c).after 12 t = iblk m c 12 t := by dsimp only [dats]
theorem before0_12 (c : Dev nD) (t : Fin cfg0.N) (d) : (dats m T K 0 c).before 12 t d = iblk m c 12 t :=
  before0_12_of m (dats m T K 0 c) (A_eq m T K c 12) (after0_12 m T K c) t d
theorem after0_13 (c : Dev nD) (t : Fin cfg0.N) : (dats m T K 0 c).after 13 t = iblk m c 13 t := by dsimp only [dats]
theorem before0_13 (c : Dev nD) (t : Fin cfg0.N) (d) : (dats m T K 0 c).before 13 t d = iblk m c 13 t :=
  before0_13_of m (dats m T K 0 c) (A_eq m T K c 13) (after0_13 m T K c) t d
theorem after0_14 (c : Dev nD) (t : Fin cfg0.N) : (dats m T K 0 c).after 14 t = iblk m c 14 t := by dsimp only [dats]
theorem before0_14 (c : Dev nD) (t : Fin cfg0.N) (d) : (dats m T K 0 c).before 14 t d = iblk m c 14 t :=
  before0_14_of m (dats m T K 0 c) (A_eq m T K c 14) (after0_14 m T K c) t d
theorem after0_15 (c : Dev nD) (t : Fin cfg0.N) : (dats m T K 0 c).after 15 t = iblk m c 15 t := by dsimp only [dats]
theorem before0_15 (c : Dev nD) (t : Fin cfg0.N) (d) : (dats m T K 0 c).before 15 t d = iblk m c 15 t :=
  before0_15_of m (dats m T K 0 c) (A_eq m T K c 15) (after0_15 m T K c) t d
theorem after0_16 (c : Dev nD) (t : Fin cfg0.N) : (dats m T K 0 c).after 16 t = iblk m c 16 t := by dsimp only [dats]
theorem before0_16 (c : Dev nD) (t : Fin cfg0.N) (d) : (dats m T K 0 c).before 16 t d = iblk m c 16 t :=
  before0_16_of m (dats m T K 0 c) (A_eq m T K c 16) (after0_16 m T K c) t d
theorem after0_17 (c : Dev nD) (t : Fin cfg0.N) : (dats m T K 0 c).after 17 t = T c t := by dsimp only [dats]

/-- The result's staging buffer before point `t`: at anything, where it is forgotten. -/
def pre17 (c : Dev nD) (t : Fin cfg0.N) : sProp 𝕄 :=
  match b with
  | true => iprop(∃ X, owns (c : Thread nD τ) (st0_17 t) fullShare X)
  | false => iprop(∃ d, owns (c : Thread nD τ) (st0_17 t) fullShare ((dats m T K 0 c).before 17 t d))

/-- And after it: at the point's tile, or at anything, where it is forgotten. -/
def post17 (c : Dev nD) (t : Fin cfg0.N) : sProp 𝕄 :=
  match b with
  | true => iprop(∃ X, owns (c : Thread nD τ) (st0_17 t) fullShare X)
  | false => owns (c : Thread nD τ) (st0_17 t) fullShare ((dats m T K 0 c).after 17 t)

theorem pre17_le (c : Dev nD) (t : Fin cfg0.N) : pre17 m T K b c t ⊢ iprop(∃ X, owns (c : Thread nD τ) (st0_17 t) fullShare X) := by
  unfold pre17
  cases b
  · iintro ⟨%d, H⟩
    iexists _; iexact H
  · iintro H
    iexact H

theorem post17_of (c : Dev nD) (t : Fin cfg0.N) (X : Vec F S1x512x1024 .f32) (h : b = false → X = T c t) :
    owns (c : Thread nD τ) (st0_17 t) fullShare X ⊢ post17 m T K b c t := by
  unfold post17
  cases b
  · rw [h rfl, ← after0_17 m T K c t]
  · iintro H
    iexists _; iexact H

/-- What the body is called with at point `t`, -/
def bodyPre (c : Dev nD) (t : Fin cfg0.N) : sProp 𝕄 :=
  iprop((dats m T K 0 c).Φ t.castSucc ∗ (dats m T K 0 c).owesAt () t.castSucc
    ∗ (∃ d, owns (c : Thread nD τ) (st0_0 t) fullShare ((dats m T K 0 c).before 0 t d))
    ∗ (∃ d, owns (c : Thread nD τ) (st0_1 t) fullShare ((dats m T K 0 c).before 1 t d))
    ∗ (∃ d, owns (c : Thread nD τ) (st0_2 t) fullShare ((dats m T K 0 c).before 2 t d))
    ∗ (∃ d, owns (c : Thread nD τ) (st0_3 t) fullShare ((dats m T K 0 c).before 3 t d))
    ∗ (∃ d, owns (c : Thread nD τ) (st0_4 t) fullShare ((dats m T K 0 c).before 4 t d))
    ∗ (∃ d, owns (c : Thread nD τ) (st0_5 t) fullShare ((dats m T K 0 c).before 5 t d))
    ∗ (∃ d, owns (c : Thread nD τ) (st0_6 t) fullShare ((dats m T K 0 c).before 6 t d))
    ∗ (∃ d, owns (c : Thread nD τ) (st0_7 t) fullShare ((dats m T K 0 c).before 7 t d))
    ∗ (∃ d, owns (c : Thread nD τ) (st0_8 t) fullShare ((dats m T K 0 c).before 8 t d))
    ∗ (∃ d, owns (c : Thread nD τ) (st0_9 t) fullShare ((dats m T K 0 c).before 9 t d))
    ∗ (∃ d, owns (c : Thread nD τ) (st0_10 t) fullShare ((dats m T K 0 c).before 10 t d))
    ∗ (∃ d, owns (c : Thread nD τ) (st0_11 t) fullShare ((dats m T K 0 c).before 11 t d))
    ∗ (∃ d, owns (c : Thread nD τ) (st0_12 t) fullShare ((dats m T K 0 c).before 12 t d))
    ∗ (∃ d, owns (c : Thread nD τ) (st0_13 t) fullShare ((dats m T K 0 c).before 13 t d))
    ∗ (∃ d, owns (c : Thread nD τ) (st0_14 t) fullShare ((dats m T K 0 c).before 14 t d))
    ∗ (∃ d, owns (c : Thread nD τ) (st0_15 t) fullShare ((dats m T K 0 c).before 15 t d))
    ∗ (∃ d, owns (c : Thread nD τ) (st0_16 t) fullShare ((dats m T K 0 c).before 16 t d))
    ∗ pre17 m T K b c t)

/-- and what it returns. -/
def bodyPost (c : Dev nD) (t : Fin cfg0.N) : sProp 𝕄 :=
  iprop((dats m T K 0 c).Φ t.succ ∗ (dats m T K 0 c).owesAt () t.succ
    ∗ owns (c : Thread nD τ) (st0_0 t) fullShare ((dats m T K 0 c).after 0 t)
    ∗ owns (c : Thread nD τ) (st0_1 t) fullShare ((dats m T K 0 c).after 1 t)
    ∗ owns (c : Thread nD τ) (st0_2 t) fullShare ((dats m T K 0 c).after 2 t)
    ∗ owns (c : Thread nD τ) (st0_3 t) fullShare ((dats m T K 0 c).after 3 t)
    ∗ owns (c : Thread nD τ) (st0_4 t) fullShare ((dats m T K 0 c).after 4 t)
    ∗ owns (c : Thread nD τ) (st0_5 t) fullShare ((dats m T K 0 c).after 5 t)
    ∗ owns (c : Thread nD τ) (st0_6 t) fullShare ((dats m T K 0 c).after 6 t)
    ∗ owns (c : Thread nD τ) (st0_7 t) fullShare ((dats m T K 0 c).after 7 t)
    ∗ owns (c : Thread nD τ) (st0_8 t) fullShare ((dats m T K 0 c).after 8 t)
    ∗ owns (c : Thread nD τ) (st0_9 t) fullShare ((dats m T K 0 c).after 9 t)
    ∗ owns (c : Thread nD τ) (st0_10 t) fullShare ((dats m T K 0 c).after 10 t)
    ∗ owns (c : Thread nD τ) (st0_11 t) fullShare ((dats m T K 0 c).after 11 t)
    ∗ owns (c : Thread nD τ) (st0_12 t) fullShare ((dats m T K 0 c).after 12 t)
    ∗ owns (c : Thread nD τ) (st0_13 t) fullShare ((dats m T K 0 c).after 13 t)
    ∗ owns (c : Thread nD τ) (st0_14 t) fullShare ((dats m T K 0 c).after 14 t)
    ∗ owns (c : Thread nD τ) (st0_15 t) fullShare ((dats m T K 0 c).after 15 t)
    ∗ owns (c : Thread nD τ) (st0_16 t) fullShare ((dats m T K 0 c).after 16 t)
    ∗ post17 m T K b c t)

set_option maxHeartbeats 4000000 in
/-- The body at any point. -/
theorem sound_body (hs : Steps m T K b) (c : Dev nD) (t : Fin cfg0.N) :
    bodyPre m T K b c t ⊢ wp frame (wpE (defs₀ (F := F)) Variants.none c none) Set.univ (bodyAt0 t) (fun _ => bodyPost m T K b c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m T K 0 c).owesAt () t.succ = (dats m T K 0 c).owesAt () t.castSucc from rfl,
    after0_0, after0_1, after0_2, after0_3, after0_4, after0_5, after0_6, after0_7, after0_8, after0_9, after0_10, after0_11, after0_12, after0_13, after0_14, after0_15, after0_16]
  rw [show (dats m T K 0 c).Φ t.succ = PhiS K c (t.val + 1) from rfl, show (dats m T K 0 c).Φ t.castSucc = PhiS K c t.val from rfl]
  unfold PhiS
  iintro ⟨⟨⟨⟨%d, %hd, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, H17⟩
  obtain ⟨LO, LS, R, hO, hS⟩ := hs t c (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) d hd
  iapply (R Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (pre17_le m T K b c t); iexact H17
  isplitl [HS0]; · iexact HS0
  isplitl [HS1]; · iexact HS1
  isplitl [HS2]; · iexact HS2
  iintro ⟨H0, H1, H2, H3, H4, H5, H6, H7, H8, H9, H10, H11, H12, H13, H14, H15, H16, ⟨%g, %f, H17⟩, ⟨%fs, HS0⟩, HS1, HS2⟩
  isplitl [HS0 HS1 HS2 Hg]
  · isplitl [HS0 HS1 HS2]
    · isplitl [HS0]
      · iexists _; isplitr
        · ipureintro; exact hS fs
        unfold owns; iexists _; isplitr
        swap; · iexact HS0
        ipureintro; rfl
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iapply (post17_of m T K b c t _ fun h => hO h g f)
  unfold owns; iexists _; isplitr
  swap; · iexact H17
  ipureintro; rfl

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hs : Steps m T K b) (c : Dev nD) :
    BodyObligation (dats m T K 0 c) (defs₀ (F := F)) Variants.none () Set.univ (fgt b) := fun t => by
  rw [bigSep_W0, bigSep_W0, defs₀_row]
  exact triple_restated (sound_body m T K b hs c t) rfl .rfl fun _ => .rfl

theorem hin (hK : ∀ c d, K c 0 d) (c : Dev nD) : Pipeline.ΦA spec0 c ⊢ (dats m T K 0 c).Φ 0 := by
  rw [show (dats m T K 0 c).Φ 0 = PhiS K c 0 from rfl, PhiA0_eq]
  unfold PhiS
  iintro ⟨⟨⟨%d, HS0⟩, HS1, HS2⟩, Hg⟩
  isplitl [HS0 HS1 HS2]
  · isplitl [HS0]
    · iexists d; isplitr
      · ipureintro; exact hK c d
      iexact HS0
    isplitl [HS1]; · iexact HS1
    iexact HS2
  iexact Hg

theorem hout (c : Dev nD) : (dats m T K 0 c).Φ (Fin.last cfg0.N) ⊢ Pipeline.ΦA spec0 c := by
  rw [show (dats m T K 0 c).Φ (Fin.last cfg0.N) = PhiS K c (Fin.last cfg0.N).val from rfl, PhiA0_eq]
  unfold PhiS
  iintro ⟨⟨⟨%d, %hd, HS0⟩, HS1, HS2⟩, Hg⟩
  isplitl [HS0 HS1 HS2]
  · isplitl [HS0]; · iexists d; iexact HS0
    isplitl [HS1]; · iexact HS1
    iexact HS2
  iexact Hg

set_option backward.isDefEq.respectTransparency.types false in
/-- The launch: every window's array at what the proof data leaves in it, the result's at anything if forgotten; every
semaphore counter at zero. -/
theorem run (hK : ∀ c d, K c 0 d) (hs : Steps m T K b) : θ_run defs (onTc (τ := τ) (main (F := F))) (s₀ m ρ)
    (fun r => Pipeline.RDat.FramePost (cfgs 0) (fun c => (dats m T K 0 c).toRForget (fgt b)) (V m) r ∧ r.2.sem = fun _ => 0) :=
  Pipeline.θ_run_frame_track_forget (Q' := _) cfgs (dats m T K) (0 : Fin 1) launch0 defs₀ Variants.none (fgt b) m ρ main
    (hbody := fun c => (body_obligation m T K b hs c).loose) (hshare := fun c => (dats m T K 0 c).share_full fun _ => rfl)
    (howed := fun _ _ => rfl) (V := V m) (hmain := hmain m Variants.none) (hA := A_eq m T K) (hin := hin m T K hK) (hout := hout m T K)

/-- Nothing forgotten, the result's array too is at what the proof data leaves in it. -/
theorem run_kept (hK : ∀ c d, K c 0 d) (hs : Steps m T K false) : θ_run defs (onTc (τ := τ) (main (F := F))) (s₀ m ρ)
    (Pipeline.FramePost cfgs (dats m T K) 0 (V m)) :=
  (θ_run defs _ _).mono (fun r h c =>
    ⟨fun w => ((dats m T K 0 c).toRForget_arrAt_iff (fgt := fgt false) (w := w) (Bool.and_false _) _ _).1 ((h.1 c).1 w), (h.1 c).2⟩)
    (run m ρ T K false hK hs)

end Launch

/-- The body runs at every point, whatever the carried buffer holds. -/
theorem steps (T : Dev nD → Fin cfg0.N → Vec F S1x512x1024 .f32) : Launch.Steps m T (fun _ _ _ => True) true := by
  intro t c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 d _
  by_cases h0 : t.val % 16 = 0
  · exact ⟨_, _, (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 ((cond0_iff t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d).2.2, nofun, fun _ => trivial⟩
  · exact ⟨_, _, (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fun h => h0 ((cond0_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) d).2.2, nofun, fun _ => trivial⟩

/-- The program ends from every state, with every argument as it was and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16))
      ∧ r.2.sem = fun _ => 0) :=
  (θ_run defs _ _).mono (fun _ h => ⟨fun c => ⟨((((Launch.dats m (fun c t => iblk m c 0 t) (fun _ _ _ => True) 0 c).toRForget_arrAt_iff (fgt := Launch.fgt true) (w := 0) rfl _ _).1 ((h.1 c).1 0)).trans
        (((Launch.dats m (fun c t => iblk m c 0 t) (fun _ _ _ => True) 0 c).arrAt_in 0 rfl _).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((((Launch.dats m (fun c t => iblk m c 0 t) (fun _ _ _ => True) 0 c).toRForget_arrAt_iff (fgt := Launch.fgt true) (w := 5) rfl _ _).1 ((h.1 c).1 5)).trans
        (((Launch.dats m (fun c t => iblk m c 0 t) (fun _ _ _ => True) 0 c).arrAt_in 5 rfl _).trans (V_main_arg5 m c))),
      ((h.1 c).2 main_arg6 (Pipeline.mem_restRefs_of main_arg6 (by decide) (by decide))).trans (V_main_arg6 m c),
      ((((Launch.dats m (fun c t => iblk m c 0 t) (fun _ _ _ => True) 0 c).toRForget_arrAt_iff (fgt := Launch.fgt true) (w := 7) rfl _ _).1 ((h.1 c).1 7)).trans
        (((Launch.dats m (fun c t => iblk m c 0 t) (fun _ _ _ => True) 0 c).arrAt_in 7 rfl _).trans (V_main_arg7 m c))),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      ((h.1 c).2 main_arg12 (Pipeline.mem_restRefs_of main_arg12 (by decide) (by decide))).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c)⟩, h.2⟩)
    (Launch.run m ρ (fun c t => iblk m c 0 t) (fun _ _ _ => True) true (fun _ _ => trivial) (steps m _))

end Cert.KernelIdeal.Gen

end
-- ==== Proof.Spec.lean ====
module

public import Idealize.ShloMosaic.Lib.Pointwise

/-! The layer's mathematics, row by row, on the extended reals: what both programs compute. -/

@[expose] public section

noncomputable section

namespace Cert.Layer

open Idealize.ShloMosaic

/-- The layer's weights, read at their indices. `bs c i` is the gating bias of the head of channel `c` at position `i`. -/
structure Weights where
  n1 : Fin 1024 → EReal
  win : Fin 1024 → Fin 2048 → EReal
  alg : Fin 512 → EReal
  alb : Fin 512 → EReal
  ws : Fin 4 → Fin 128 → Fin 128 → EReal
  bs : Fin 512 → Fin 128 → EReal
  cw : Fin 31 → Fin 512 → EReal
  cb : Fin 512 → EReal
  clg : Fin 512 → EReal
  clb : Fin 512 → EReal
  wout : Fin 1024 → Fin 1024 → EReal
  n2 : Fin 1024 → EReal
  wg : Fin 1024 → Fin 2816 → EReal
  wu : Fin 1024 → Fin 2816 → EReal
  wd : Fin 2816 → Fin 1024 → EReal
  fn : Fin 1024 → EReal

/-- Root-mean-square normalisation of a row, scaled by `g`. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A row's mean. -/
def mean (x : Fin 512 → EReal) : EReal := Ideal.div (∑ k, x k) (Ideal.ofBits .f32 0x44000000#32)

/-- Layer normalisation of a row, scaled by `g` and shifted by `b`. -/
def ln (x g b : Fin 512 → EReal) (j : Fin 512) : EReal :=
  (x j - mean x) * Ideal.rsqrt (Ideal.div (∑ k, (x k - mean x) * (x k - mean x)) (Ideal.ofBits .f32 0x44000000#32)
    + Ideal.ofBits .f32 0x3727C5AC#32) * g j + b j

/-- The tanh form of the Gaussian error linear unit. -/
def gelu (z : EReal) : EReal :=
  z * (Ideal.ofBits .f32 0x3F000000#32 * (1 + Ideal.tanh (Ideal.ofBits .f32 0x3F4C422A#32
    * (z + Ideal.ofBits .f32 0x3D372713#32 * (z * (z * z))))))

/-- `x` times its logistic. -/
def silu (x : EReal) : EReal := x * Ideal.logistic x

/-- The input projection of a normalised row. -/
def zrow (w : Weights) (x : Fin 1024 → EReal) (j : Fin 2048) : EReal := ∑ k, rms x w.n1 k * w.win k j

/-- The first half of the projection through the activation: the gate's two halves. -/
def uv (w : Weights) (x : Fin 1024 → EReal) (j : Fin 1024) : EReal := gelu (zrow w x ⟨j, by omega⟩)

/-- The second half of that, normalised. -/
def vn (w : Weights) (x : Fin 1024 → EReal) (j : Fin 512) : EReal :=
  ln (fun c => uv w x ⟨512 + c, by omega⟩) w.alg w.alb j

/-- The gated linear unit in front of the convolution. -/
def glu (w : Weights) (x : Fin 1024 → EReal) (j : Fin 512) : EReal :=
  zrow w x ⟨1024 + j, by omega⟩ * Ideal.logistic (zrow w x ⟨1024 + (512 + j), by omega⟩)

/-- The spatial gate at row `i` of a block of 128 rows, channel `c`: row `k` is mixed in where its chunk of 64 is not
    later than `i`'s. -/
def sg (w : Weights) (X : Fin 128 → Fin 1024 → EReal) (i : Fin 128) (c : Fin 512) : EReal :=
  (∑ k : Fin 128, if k.val / 64 ≤ i.val / 64 then w.ws ⟨c / 128, by omega⟩ i k * vn w (X k) c else 0) + w.bs c i

/-- The spatial gating mixer. -/
def ya (w : Weights) (X : Fin 128 → Fin 1024 → EReal) (i : Fin 128) (c : Fin 512) : EReal :=
  uv w (X i) ⟨c, by omega⟩ * sg w X i c

/-- The convolution mixer on the window `H` of 31 rows. -/
def yb (w : Weights) (H : Fin 31 → Fin 512 → EReal) (c : Fin 512) : EReal :=
  silu (ln (fun c => (∑ k, H k c * w.cw k c) + w.cb c) w.clg w.clb c)

/-- The two mixers side by side. -/
def mix (a b : Fin 512 → EReal) (c : Fin 1024) : EReal :=
  if h : c.val < 512 then a ⟨c, h⟩ else b ⟨c - 512, by omega⟩

/-- The residual stream after the mixers. -/
def h1 (w : Weights) (x y : Fin 1024 → EReal) (j : Fin 1024) : EReal := x j + ∑ k, y k * w.wout k j

/-- The channel mixer's hidden row. -/
def act (w : Weights) (h : Fin 1024 → EReal) (f : Fin 2816) : EReal :=
  silu (∑ k, rms h w.n2 k * w.wg k f) * ∑ k, rms h w.n2 k * w.wu k f

/-- The residual stream after the channel mixer. -/
def h2 (w : Weights) (h : Fin 1024 → EReal) (j : Fin 1024) : EReal := h j + ∑ f, act w h f * w.wd f j

/-- Everything after the mixers: from the row `x` and the mixed row `y` to the result's row. -/
def tail (w : Weights) (x y : Fin 1024 → EReal) (j : Fin 1024) : EReal := rms (h2 w (h1 w x y)) w.fn j

/-- Row `n` of the convolution's padded input: 30 rows of zeros in front. -/
def hp (w : Weights) (x : Fin 2 → Fin 8192 → Fin 1024 → EReal) (b : Fin 2) (n : ℕ) (c : Fin 512) : EReal :=
  if h : 30 ≤ n ∧ n - 30 < 8192 then glu w (x b ⟨n - 30, h.2⟩) c else 0

/-- The layer. -/
def layer (w : Weights) (x : Fin 2 → Fin 8192 → Fin 1024 → EReal) (b : Fin 2) (s : Fin 8192) (j : Fin 1024) : EReal :=
  tail w (x b s)
    (mix (ya w (fun k => x b ⟨s / 128 * 128 + k, by omega⟩) ⟨s % 128, by omega⟩) (yb w fun k => hp w x b (k + s))) j

/-- A tile of 512 rows, as the kernel computes it: `X` the tile's rows, `hb` the convolution's input with 32 rows of the
    rows before in front. -/
def tile (w : Weights) (X : Fin 512 → Fin 1024 → EReal) (hb : Fin 544 → Fin 512 → EReal) (r : Fin 512) (j : Fin 1024) :
    EReal :=
  tail w (X r)
    (mix (ya w (fun k => X ⟨r / 128 * 128 + k, by omega⟩) ⟨r % 128, by omega⟩)
      (yb w fun k => hb ⟨2 + k + r, by omega⟩)) j

/-- The half's pattern is the real one half. -/
theorem ofBits_half : Ideal.ofBits .f32 0x3F000000#32 = ((1 / 2 : ℝ) : EReal) := by
  simp [Ideal.ofBits, Ideal.ieee, -EReal.coe_mul]; norm_num

/-- The tanh form of the logistic, on all extended reals. -/
theorem logistic_tanh (x : EReal) :
    Ideal.ofBits .f32 0x3F000000#32 * (Ideal.tanh (Ideal.ofBits .f32 0x3F000000#32 * x) + 1) = Ideal.logistic x := by
  rw [ofBits_half]
  induction x with
  | bot =>
    rw [EReal.coe_mul_bot_of_pos (by norm_num), Ideal.tanh_bot, Ideal.logistic_bot]
    rw [show (-1 + 1 : EReal) = 0 by rw [← EReal.coe_one, ← EReal.coe_neg, ← EReal.coe_add]; norm_num, mul_zero]
  | top =>
    rw [EReal.coe_mul_top_of_pos (by norm_num), Ideal.tanh_top, Ideal.logistic_top]
    rw [← EReal.coe_one, ← EReal.coe_add, ← EReal.coe_mul]; norm_num
  | coe r =>
    rw [← EReal.coe_mul, Ideal.tanh_coe, Ideal.logistic_coe, ← EReal.coe_one, ← EReal.coe_add, ← EReal.coe_mul]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e' : Real.exp (1 / 2 * r) * Real.exp (-(1 / 2 * r)) = 1 := by rw [← Real.exp_add]; simp
    rw [e]
    generalize Real.exp (1 / 2 * r) = a at *
    generalize hb : Real.exp (-(1 / 2 * r)) = b at *
    have hb' : 0 < b := hb ▸ Real.exp_pos _
    have ha : a = b⁻¹ := by field_simp; linarith
    subst ha
    field_simp
    ring

/-- A sum of 31 terms, in order. -/
theorem sum31 (f : Fin 31 → EReal) : ∑ k, f k = f 0 + f 1 + f 2 + f 3 + f 4 + f 5 + f 6 + f 7 + f 8 + f 9 + f 10 + f 11
    + f 12 + f 13 + f 14 + f 15 + f 16 + f 17 + f 18 + f 19 + f 20 + f 21 + f 22 + f 23 + f 24 + f 25 + f 26 + f 27 + f 28
    + f 29 + f 30 := by
  simp only [Fin.sum_univ_castSucc, Finset.univ_eq_empty, Finset.sum_empty, zero_add]
  rfl

/-- A sum over the two mixers' channels is the sum over the first's and the second's. -/
theorem sum_mix (a b : Fin 512 → EReal) (f : Fin 1024 → EReal) :
    ∑ k, mix a b k * f k = ∑ k : Fin 512, a k * f ⟨k, by omega⟩ + ∑ k : Fin 512, b k * f ⟨512 + k, by omega⟩ := by
  rw [Fin.sum_univ_two_halves 512 512 rfl]
  refine congrArg₂ (· + ·) (Finset.sum_congr rfl fun k _ => ?_) (Finset.sum_congr rfl fun k _ => ?_)
  · rw [mix, dif_pos (show ((⟨k, by omega⟩ : Fin 1024) : ℕ) < 512 from k.2)]
  · rw [mix, dif_neg (show ¬ ((⟨512 + k, by omega⟩ : Fin 1024) : ℕ) < 512 by simp)]
    simp only [Nat.add_sub_cancel_left]

/-- The residual stream after the mixers, the two mixers' sums apart. -/
theorem h1_mix (w : Weights) (x : Fin 1024 → EReal) (a b : Fin 512 → EReal) (j : Fin 1024) :
    h1 w x (mix a b) j
      = x j + (∑ k : Fin 512, a k * w.wout ⟨k, by omega⟩ j + ∑ k : Fin 512, b k * w.wout ⟨512 + k, by omega⟩ j) :=
  congrArg (x j + ·) (sum_mix a b fun k => w.wout k j)

/-- The chunk mask's bit chooses as the comparison of the chunks. -/
theorem sel_le (i k : ℕ) (hi : i < 128) (hk : k < 128) (a : EReal) :
    Scalar.select (IntOp.cmpi .sle (BitVec.ofNat 32 (k / 64)) (BitVec.ofNat 32 (i / 64))) a 0
      = if k / 64 ≤ i / 64 then a else 0 := by
  have e : IntOp.cmpi .sle (BitVec.ofNat 32 (k / 64)) (BitVec.ofNat 32 (i / 64)) = if k / 64 ≤ i / 64 then 1#1 else 0#1 := by
    obtain hk | hk : k / 64 = 0 ∨ k / 64 = 1 := by omega
    all_goals obtain hi | hi : i / 64 = 0 ∨ i / 64 = 1 := by omega
    all_goals rw [hk, hi]; decide
  rw [e]
  by_cases h : k / 64 ≤ i / 64
  · rw [if_pos h, if_pos h]; rfl
  · rw [if_neg h, if_neg h]; rfl

end Cert.Layer

end
-- ==== Proof.KPay.lean ====
module

public import proofs.«01_k».proof.Proof.Gen.KernelIdeal.Skeleton
public import proofs.«01_k».proof.Proof.Spec
public import Idealize.ShloMosaic.Lib.Pointwise
public import Idealize.ShloMosaic.Lib.Tactic.CleanTypes

/-! The kernel's arithmetic at an index: each value the body computes is the layer's row function it stands for. -/

@[expose] public section

set_option maxRecDepth 16384

noncomputable section

namespace Cert.KernelIdeal.Gen

open Idealize.ShloMosaic Cert.Layer

/-- What one grid point reads: its tile of the input and the weights. -/
structure Args where
  x0 : Vec Ideal S1x512x1024 .f32
  x1 : Vec Ideal S1x1024 .f32
  x2 : Vec Ideal S1024x2048 .bf16
  x3 : Vec Ideal S1x512 .f32
  x4 : Vec Ideal S1x512 .f32
  x5 : Vec Ideal S4x128x128 .f32
  x6 : Vec Ideal S128x512 .f32
  x7 : Vec Ideal S31x512 .f32
  x8 : Vec Ideal S1x512 .f32
  x9 : Vec Ideal S1x512 .f32
  x10 : Vec Ideal S1x512 .f32
  x11 : Vec Ideal S1024x1024 .bf16
  x12 : Vec Ideal S1x1024 .f32
  x13 : Vec Ideal S1024x2816 .bf16
  x14 : Vec Ideal S1024x2816 .bf16
  x15 : Vec Ideal S2816x1024 .bf16
  x16 : Vec Ideal S1x1024 .f32

/-- The weights, at their indices. -/
def Args.w (a : Args) : Weights where
  n1 k := a.x1 (ix2 0 k)
  win k j := a.x2 (ix2 k j)
  alg k := a.x3 (ix2 0 k)
  alb k := a.x4 (ix2 0 k)
  ws h i k := a.x5 (ix3 h i k)
  bs c i := a.x6 (ix2 i c)
  cw k c := a.x7 (ix2 k c)
  cb c := a.x8 (ix2 0 c)
  clg c := a.x9 (ix2 0 c)
  clb c := a.x10 (ix2 0 c)
  wout k j := a.x11 (ix2 k j)
  n2 k := a.x12 (ix2 0 k)
  wg k j := a.x13 (ix2 k j)
  wu k j := a.x14 (ix2 k j)
  wd k j := a.x15 (ix2 k j)
  fn k := a.x16 (ix2 0 k)

/-- The tile's rows. -/
def Args.X (a : Args) (r : Fin 512) (j : Fin 1024) : EReal := a.x0 (ix3 0 r j)

variable (a : Args)

theorem z_at (r : Fin 512) (j : Fin 2048) : k0_pay64 a.x0 a.x1 a.x2 (ix2 r j) = zrow a.w (a.X r) j := by
  pointwise [k0_pay64, k0_pay63]
  rfl

theorem u_at (r : Fin 512) (j : Fin 512) : k0_pay66 a.x0 a.x1 a.x2 (ix2 r j) = uv a.w (a.X r) ⟨j, by omega⟩ := by
  have e := z_at a r ⟨j, by omega⟩
  unfold uv; rw [← e]
  pointwise [k0_pay66, k0_pay65]
  rfl

theorem v_at (r : Fin 512) (j : Fin 512) : k0_pay67 a.x0 a.x1 a.x2 (ix2 r j) = uv a.w (a.X r) ⟨512 + j, by omega⟩ := by
  have e := z_at a r ⟨512 + j, by omega⟩
  unfold uv; rw [← e]
  pointwise [k0_pay67, k0_pay65]
  rfl

theorem vn_at (v : FVec Ideal S512x512 .f32) (hv : ∀ r j, v (ix2 r j) = uv a.w (a.X r) ⟨512 + j, by omega⟩) (r : Fin 512) (j : Fin 512) :
    k0_pay68 v a.x3 a.x4 (ix2 r j) = vn a.w (a.X r) j := by
  pointwise [k0_pay68]
  simp only [hv]
  rfl

theorem zb_at (r : Fin 512) (j : Fin 512) : k0_pay104 (k0_pay64 a.x0 a.x1 a.x2) (ix2 r j) = zrow a.w (a.X r) ⟨1024 + j, by omega⟩ := by
  rw [← z_at]
  pointwise [k0_pay104, k0_pay103]

theorem zg_at (r : Fin 512) (j : Fin 512) : k0_pay105 (k0_pay64 a.x0 a.x1 a.x2) (ix2 r j)
    = Ideal.ofBits .f32 0x3F000000#32 * zrow a.w (a.X r) ⟨1024 + (512 + j), by omega⟩ := by
  rw [← z_at]
  pointwise [k0_pay105, k0_pay103]

end Cert.KernelIdeal.Gen

end
-- ==== Proof.KTail.lean ====
module

public import proofs.«01_k».proof.Proof.KPay

/-! The convolution's input and mixer, and what follows the mixers, at an index. -/

@[expose] public section

set_option maxRecDepth 16384

noncomputable section

namespace Cert.KernelIdeal.Gen

open Idealize.ShloMosaic Cert.Layer

variable (a : Args)

theorem glu_at (r c : Fin 512) :
    k0_pay106 (k0_pay104 (k0_pay64 a.x0 a.x1 a.x2)) (k0_pay105 (k0_pay64 a.x0 a.x1 a.x2)) (ix2 r c) = glu a.w (a.X r) c := by
  pointwise [k0_pay106, zb_at, zg_at]
  unfold glu
  rw [← logistic_tanh]

theorem yb_at (v : Vec Ideal S512x512 .f32) (H : Fin 512 → Fin 31 → Fin 512 → EReal)
    (hv : ∀ r c, v (ix2 r c) = ∑ k, H r k c * a.w.cw k c) (r c : Fin 512) :
    k0_pay120 v (k0_pay119 a.x8) a.x9 a.x10 (ix2 r c) = yb a.w (H r) c := by
  pointwise [k0_pay120, k0_pay119, hv]
  unfold yb silu
  rw [← logistic_tanh]
  rfl

/-- What the body stores in the result tile. -/
def outOf (y : Vec Ideal S512x1024 .bf16) : FVec Ideal S1x512x1024 .f32 :=
  k0_pay1 (k0_pay122 (k0_pay63 a.x0) y (k0_pay121 a.x11) (constant S512x1024 .f32 0x00000000#32) a.x12 a.x13 a.x14 a.x15)
    (k0_pay123 a.x16)
    (k0_pay124 (k0_pay63 a.x0) y (k0_pay121 a.x11) (constant S512x1024 .f32 0x00000000#32) a.x12 a.x13 a.x14 a.x15)

theorem h2_at (y : Vec Ideal S512x1024 .bf16) (Y : Fin 512 → Fin 1024 → EReal) (hy : ∀ r c, y (ix2 r c) = Y r c) (r : Fin 512)
    (j : Fin 1024) :
    k0_pay122 (k0_pay63 a.x0) y (k0_pay121 a.x11) (constant S512x1024 .f32 0x00000000#32) a.x12 a.x13 a.x14 a.x15 (ix2 r j)
      = h2 a.w (h1 a.w (a.X r) (Y r)) j := by
  pointwise [k0_pay122, k0_pay121, k0_pay63, hy]
  unfold h2 act silu
  simp only [← logistic_tanh]
  rfl

theorem out_at (y : Vec Ideal S512x1024 .bf16) (Y : Fin 512 → Fin 1024 → EReal) (hy : ∀ r c, y (ix2 r c) = Y r c) (r : Fin 512)
    (j : Fin 1024) : outOf a y (ix3 0 r j) = tail a.w (a.X r) (Y r) j := by
  unfold outOf
  pointwise [k0_pay1, k0_pay123, k0_pay124, h2_at a y Y hy]
  rfl

end Cert.KernelIdeal.Gen

end
-- ==== Proof.KConv.lean ====
module

public import proofs.«01_k».proof.Proof.Gen.KernelIdeal.Loops
public import proofs.«01_k».proof.Proof.KTail

/-! The convolution's four loops: what each stores, at an index. -/

@[expose] public section

set_option maxRecDepth 16384

noncomputable section

namespace Cert.KernelIdeal.Gen

open Idealize.ShloMosaic Idealize.ShloMosaic.TcCoe Cert.Layer

/-- The carried buffer's contents by natural coordinates. -/
def hn (m : Memref sig .tc .vmem S4x544x128 .f32) (X : BufTy.Contents (Elt Ideal) m.view.ty) (g ρ l : ℕ) : EReal :=
  if h : g < 4 ∧ ρ < 544 ∧ l < 128 then m.view.read (Elt Ideal) X (ix3 ⟨g, h.1⟩ ⟨ρ, h.2.1⟩ ⟨l, h.2.2⟩) else 0

/-- The filter's contents by natural coordinates. -/
def wn (m : Memref sig .tc .vmem S31x512 .f32) (X : BufTy.Contents (Elt Ideal) m.view.ty) (t c : ℕ) : EReal :=
  if h : t < 31 ∧ c < 512 then m.view.read (Elt Ideal) X (ix2 ⟨t, h.1⟩ ⟨c, h.2⟩) else 0

theorem load_h (m : Memref sig .tc .vmem S4x544x128 .f32) (X : BufTy.Contents (Elt Ideal) m.view.ty) (off : Fin 3 → ℕ)
    (inb : ∀ a, off a + (![1, 64, 128] : Fin 3 → ℕ) a ≤ S4x544x128.size a) (i : Fin 64) (l : Fin 128) :
    m.view.readAt (Elt Ideal) (Rect.unit (s := S4x544x128) off ![1, 64, 128] inb).toLoadRect X (ix3 0 i l)
      = hn m X (off 0) (off 1 + i) (off 2 + l) := by
  have h0 : off 0 + 1 ≤ 4 := inb 0
  have h1 : off 1 + 64 ≤ 544 := inb 1
  have h2 : off 2 + 128 ≤ 128 := inb 2
  rw [hn, dif_pos ⟨by omega, by omega, by omega⟩, View.readAt_apply]
  refine congrArg (m.view.read (Elt Ideal) X) (funext fun a => Fin.ext ?_)
  match a with
  | ⟨0, _⟩ => show off 0 + 1 * 0 = off 0; omega
  | ⟨1, _⟩ => show off 1 + 1 * i.val = off 1 + i.val; omega
  | ⟨2, _⟩ => show off 2 + 1 * l.val = off 2 + l.val; omega

theorem load_w (m : Memref sig .tc .vmem S31x512 .f32) (X : BufTy.Contents (Elt Ideal) m.view.ty) (off : Fin 2 → ℕ)
    (inb : ∀ a, off a + (![1, 128] : Fin 2 → ℕ) a ≤ S31x512.size a) (l : Fin 128) :
    m.view.readAt (Elt Ideal) (Rect.unit (s := S31x512) off ![1, 128] inb).toLoadRect X (ix2 0 l)
      = wn m X (off 0) (off 1 + l) := by
  have h0 : off 0 + 1 ≤ 31 := inb 0
  have h1 : off 1 + 128 ≤ 512 := inb 1
  rw [wn, dif_pos ⟨by omega, by omega⟩, View.readAt_apply]
  refine congrArg (m.view.read (Elt Ideal) X) (funext fun a => Fin.ext ?_)
  match a with
  | ⟨0, _⟩ => show off 0 + 1 * 0 = off 0; omega
  | ⟨1, _⟩ => show off 1 + 1 * l.val = off 1 + l.val; omega

theorem piece_off {off off' : Fin 2 → ℕ} (h : off = off') (inb : ∀ a, off a + S64x128.size a ≤ S512x512.size a)
    (inb' : ∀ a, off' a + S64x128.size a ≤ S512x512.size a) (V : FVec Ideal S64x128 .f32) :
    ([⟨Rect.unit (s := S512x512) off S64x128.size inb, V⟩] : List (View.Piece (Elt Ideal) S512x512 .f32))
      = [⟨Rect.unit (s := S512x512) off' S64x128.size inb', V⟩] := by
  subst h; rfl

/-- What a trip of loop 1 stores: rows `64 k …`, columns `0 …`. -/
theorem trip1 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (v296 v299 : FVec Ideal S512x512 .f32)
    (X9 : BufTy.Contents (Elt Ideal) arg9.view.ty) (X20 : BufTy.Contents (Elt Ideal) arg20.view.ty) (k : Fin k0_t1_loop.trips) :
    ∃ (inb : _) (V : FVec Ideal S64x128 .f32),
      (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 X9 X20 k).1
        = [⟨Rect.unit (s := S512x512) ![64 * k.val, 0] S64x128.size inb, V⟩]
      ∧ ∀ i l, V (ix2 i l) = ∑ t : Fin 31, hn arg20 X20 0 (64 * k.val + t + 2 + i) l * wn arg9 X9 t (0 + l) := by
  refine ⟨fun a => k0_off2_eq k ▸ k0_off2_inb k a, k0_pay111 (trip_k0_t1.sl.r_14 arg9 arg20 X9 X20 k), ?_, fun i l => ?_⟩
  · unfold trip_k0_t1
    exact piece_off (k0_off2_eq k) _ _ _
  · delta trip_k0_t1.sl.r_14 trip_k0_t1.sl.r_13 trip_k0_t1.sl.r_12 trip_k0_t1.sl.r_11 trip_k0_t1.sl.r_10 trip_k0_t1.sl.r_9 trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
    pointwise [k0_pay111, k0_pay2, k0_pay3, k0_pay4, k0_pay5, k0_pay6, k0_pay7, k0_pay8, k0_pay9, k0_pay10, k0_pay11, k0_pay12, k0_pay13, k0_pay14, k0_pay15, k0_pay16, load_h, load_w]
    have o : ∀ n, n < 31 → k0_off1 k (BitVec.ofNat 32 n) = ![0, 64 * k.val + n + 2, 0] := fun n h => k0_off1_eq k ⟨n, h⟩
    simp (disch := decide) only [o, sum31, Matrix.cons_val_zero, Matrix.cons_val_one, Matrix.cons_val, zero_add]
    rfl

/-- What a trip of loop 2 stores: rows `64 k …`, columns `128 …`. -/
theorem trip2 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (k : Fin k0_t2_loop.trips) :
    ∃ (inb : _) (V : FVec Ideal S64x128 .f32),
      (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 k).1
        = [⟨Rect.unit (s := S512x512) ![64 * k.val, 128] S64x128.size inb, V⟩]
      ∧ ∀ i l, V (ix2 i l) = ∑ t : Fin 31, hn arg20 X20 1 (64 * k.val + t + 2 + i) l * wn arg9 X9 t (128 + l) := by
  refine ⟨fun a => k0_off4_eq k ▸ k0_off4_inb k a, k0_pay113 (trip_k0_t2.sl.r_14 arg9 arg20 X9 X20 k), ?_, fun i l => ?_⟩
  · unfold trip_k0_t2
    exact piece_off (k0_off4_eq k) _ _ _
  · delta trip_k0_t2.sl.r_14 trip_k0_t2.sl.r_13 trip_k0_t2.sl.r_12 trip_k0_t2.sl.r_11 trip_k0_t2.sl.r_10 trip_k0_t2.sl.r_9 trip_k0_t2.sl.r_8 trip_k0_t2.sl.r_7 trip_k0_t2.sl.r_6 trip_k0_t2.sl.r_5 trip_k0_t2.sl.r_4 trip_k0_t2.sl.r_3 trip_k0_t2.sl.r_2 trip_k0_t2.sl.r_1 trip_k0_t2.sl.r
    pointwise [k0_pay113, k0_pay17, k0_pay18, k0_pay19, k0_pay20, k0_pay21, k0_pay22, k0_pay23, k0_pay24, k0_pay25, k0_pay26, k0_pay27, k0_pay28, k0_pay29, k0_pay30, k0_pay31, load_h, load_w]
    have o : ∀ n, n < 31 → k0_off3 k (BitVec.ofNat 32 n) = ![1, 64 * k.val + n + 2, 0] := fun n h => k0_off3_eq k ⟨n, h⟩
    simp (disch := decide) only [o, sum31, Matrix.cons_val_zero, Matrix.cons_val_one, Matrix.cons_val, zero_add]
    rfl

/-- What a trip of loop 3 stores: rows `64 k …`, columns `256 …`. -/
theorem trip3 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (k : Fin k0_t3_loop.trips) :
    ∃ (inb : _) (V : FVec Ideal S64x128 .f32),
      (trip_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 k).1
        = [⟨Rect.unit (s := S512x512) ![64 * k.val, 256] S64x128.size inb, V⟩]
      ∧ ∀ i l, V (ix2 i l) = ∑ t : Fin 31, hn arg20 X20 2 (64 * k.val + t + 2 + i) l * wn arg9 X9 t (256 + l) := by
  refine ⟨fun a => k0_off6_eq k ▸ k0_off6_inb k a, k0_pay115 (trip_k0_t3.sl.r_14 arg9 arg20 X9 X20 k), ?_, fun i l => ?_⟩
  · unfold trip_k0_t3
    exact piece_off (k0_off6_eq k) _ _ _
  · delta trip_k0_t3.sl.r_14 trip_k0_t3.sl.r_13 trip_k0_t3.sl.r_12 trip_k0_t3.sl.r_11 trip_k0_t3.sl.r_10 trip_k0_t3.sl.r_9 trip_k0_t3.sl.r_8 trip_k0_t3.sl.r_7 trip_k0_t3.sl.r_6 trip_k0_t3.sl.r_5 trip_k0_t3.sl.r_4 trip_k0_t3.sl.r_3 trip_k0_t3.sl.r_2 trip_k0_t3.sl.r_1 trip_k0_t3.sl.r
    pointwise [k0_pay115, k0_pay32, k0_pay33, k0_pay34, k0_pay35, k0_pay36, k0_pay37, k0_pay38, k0_pay39, k0_pay40, k0_pay41, k0_pay42, k0_pay43, k0_pay44, k0_pay45, k0_pay46, load_h, load_w]
    have o : ∀ n, n < 31 → k0_off5 k (BitVec.ofNat 32 n) = ![2, 64 * k.val + n + 2, 0] := fun n h => k0_off5_eq k ⟨n, h⟩
    simp (disch := decide) only [o, sum31, Matrix.cons_val_zero, Matrix.cons_val_one, Matrix.cons_val, zero_add]
    rfl

/-- What a trip of loop 4 stores: rows `64 k …`, columns `384 …`. -/
theorem trip4 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (k : Fin k0_t4_loop.trips) :
    ∃ (inb : _) (V : FVec Ideal S64x128 .f32),
      (trip_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 k).1
        = [⟨Rect.unit (s := S512x512) ![64 * k.val, 384] S64x128.size inb, V⟩]
      ∧ ∀ i l, V (ix2 i l) = ∑ t : Fin 31, hn arg20 X20 3 (64 * k.val + t + 2 + i) l * wn arg9 X9 t (384 + l) := by
  refine ⟨fun a => k0_off8_eq k ▸ k0_off8_inb k a, k0_pay117 (trip_k0_t4.sl.r_14 arg9 arg20 X9 X20 k), ?_, fun i l => ?_⟩
  · unfold trip_k0_t4
    exact piece_off (k0_off8_eq k) _ _ _
  · delta trip_k0_t4.sl.r_14 trip_k0_t4.sl.r_13 trip_k0_t4.sl.r_12 trip_k0_t4.sl.r_11 trip_k0_t4.sl.r_10 trip_k0_t4.sl.r_9 trip_k0_t4.sl.r_8 trip_k0_t4.sl.r_7 trip_k0_t4.sl.r_6 trip_k0_t4.sl.r_5 trip_k0_t4.sl.r_4 trip_k0_t4.sl.r_3 trip_k0_t4.sl.r_2 trip_k0_t4.sl.r_1 trip_k0_t4.sl.r
    pointwise [k0_pay117, k0_pay47, k0_pay48, k0_pay49, k0_pay50, k0_pay51, k0_pay52, k0_pay53, k0_pay54, k0_pay55, k0_pay56, k0_pay57, k0_pay58, k0_pay59, k0_pay60, k0_pay61, load_h, load_w]
    have o : ∀ n, n < 31 → k0_off7 k (BitVec.ofNat 32 n) = ![3, 64 * k.val + n + 2, 0] := fun n h => k0_off7_eq k ⟨n, h⟩
    simp (disch := decide) only [o, sum31, Matrix.cons_val_zero, Matrix.cons_val_one, Matrix.cons_val, zero_add]
    rfl

end Cert.KernelIdeal.Gen

end
-- ==== Proof.KConvAll.lean ====
module

public import proofs.«01_k».proof.Proof.KConv
public import Idealize.ShloMosaic.Lib.Writes

/-! What the convolution's buffer reads after the four loops. -/

@[expose] public section

set_option maxRecDepth 16384

noncomputable section

namespace Cert.KernelIdeal.Gen

open Idealize.ShloMosaic Idealize.ShloMosaic.TcCoe Cert.Layer

/-- The convolution at a row and a channel, over natural coordinates. -/
def convN (H W : ℕ → ℕ → EReal) (r c : ℕ) : EReal := ∑ t : Fin 31, H (r + t + 2) c * W t c

/-- The piece of trip `k` of lane group `g`, storing `G`. -/
def IsTrip (G : ℕ → ℕ → EReal) (g k : ℕ) (p : View.Piece (Elt Ideal) S512x512 .f32) : Prop :=
  ∃ (inb : _) (V : FVec Ideal S64x128 .f32), p = ⟨Rect.unit (s := S512x512) ![64 * k, 128 * g] S64x128.size inb, V⟩
    ∧ ∀ i l, V (ix2 i l) = G (64 * k + i) (128 * g + l)

/-- The pieces of the first `n` trips of lane group `g`, and no others. -/
structure Group (G : ℕ → ℕ → EReal) (g n : ℕ) (L : List (View.Piece (Elt Ideal) S512x512 .f32)) : Prop where
  only : ∀ p ∈ L, ∃ k, IsTrip G g k p
  all : ∀ k < n, ∃ p ∈ L, IsTrip G g k p

theorem Group.zero (G : ℕ → ℕ → EReal) (g : ℕ) : Group G g 0 [] := ⟨by simp, by simp⟩

theorem Group.succ {G : ℕ → ℕ → EReal} {g n : ℕ} {L : List (View.Piece (Elt Ideal) S512x512 .f32)} (h : Group G g n L)
    {p : View.Piece (Elt Ideal) S512x512 .f32} (hp : IsTrip G g n p) : Group G g (n + 1) ([p] ++ L) := by
  refine ⟨fun q hq => ?_, fun k hk => ?_⟩
  · rcases List.mem_cons.1 hq with rfl | hq
    · exact ⟨n, hp⟩
    · exact h.only q hq
  · rcases Nat.lt_succ_iff_lt_or_eq.1 hk with hk | rfl
    · obtain ⟨q, hq, e⟩ := h.all k hk
      exact ⟨q, List.mem_cons_of_mem _ hq, e⟩
    · exact ⟨p, List.mem_cons_self, hp⟩

/-- The convolution's buffer after the four loops, whatever it held: the convolution. -/
theorem cbuf_at (v : View sig .tc .vmem S512x512 .f32) (f : v.ty.Contents (Elt Ideal)) (G : ℕ → ℕ → EReal)
    {L1 L2 L3 L4 : List (View.Piece (Elt Ideal) S512x512 .f32)} (h1 : Group G 0 8 L1) (h2 : Group G 1 8 L2)
    (h3 : Group G 2 8 L3) (h4 : Group G 3 8 L4) (r c : Fin 512) :
    v.read (Elt Ideal) (v.writes (Elt Ideal) f (L4 ++ (L3 ++ (L2 ++ L1)))) (ix2 r c) = G r c := by
  refine (View.read_writes_apply_of_pieces v f (fun y => G (y 0).val (y 1).val) _ ?_ (ix2 r c) ?_).trans rfl
  · intro p hp x
    have : ∃ g k, IsTrip G g k p := by
      rcases List.mem_append.1 hp with hp | hp
      · exact ⟨_, h4.only p hp⟩
      rcases List.mem_append.1 hp with hp | hp
      · exact ⟨_, h3.only p hp⟩
      rcases List.mem_append.1 hp with hp | hp
      · exact ⟨_, h2.only p hp⟩
      · exact ⟨_, h1.only p hp⟩
    obtain ⟨g, k, inb, V, rfl, hV⟩ := this
    have e : x = ix2 (x 0) (x 1) := by
      funext a
      match a with
      | ⟨0, _⟩ => rfl
      | ⟨1, _⟩ => rfl
    show V x = G (64 * k + 1 * (x 0).val) (128 * g + 1 * (x 1).val)
    rw [e, Nat.one_mul, Nat.one_mul]
    exact hV (x 0) (x 1)
  · have key : ∀ g (L : List (View.Piece (Elt Ideal) S512x512 .f32)), Group G g 8 L → c.val / 128 = g →
        ∃ p ∈ L, (ix2 r c : S512x512.Idx) ∈ p.1.set := by
      intro g L hL hg
      obtain ⟨p, hp, inb, V, rfl, -⟩ := hL.all (r.val / 64) (by omega)
      refine ⟨_, hp, (Rect.mem_set_unit (inb := inb)).2 fun a => ?_⟩
      match a with
      | ⟨0, _⟩ => show 64 * (r.val / 64) ≤ r.val ∧ r.val < 64 * (r.val / 64) + 64; omega
      | ⟨1, _⟩ => show 128 * g ≤ c.val ∧ c.val < 128 * g + 128; omega
    rcases (by omega : c.val / 128 = 0 ∨ c.val / 128 = 1 ∨ c.val / 128 = 2 ∨ c.val / 128 = 3) with e | e | e | e
    · obtain ⟨p, hp, h⟩ := key 0 L1 h1 e
      exact ⟨p, by simp [hp], h⟩
    · obtain ⟨p, hp, h⟩ := key 1 L2 h2 e
      exact ⟨p, by simp [hp], h⟩
    · obtain ⟨p, hp, h⟩ := key 2 L3 h3 e
      exact ⟨p, by simp [hp], h⟩
    · obtain ⟨p, hp, h⟩ := key 3 L4 h4 e
      exact ⟨p, by simp [hp], h⟩

theorem group1 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (v296 v299 : FVec Ideal S512x512 .f32)
    (X9 : BufTy.Contents (Elt Ideal) arg9.view.ty) (X20 : BufTy.Contents (Elt Ideal) arg20.view.ty) (H W : ℕ → ℕ → EReal)
    (hH : ∀ ρ < 544, ∀ l < 128, hn arg20 X20 0 ρ l = H ρ (128 * 0 + l)) (hW : ∀ t < 31, ∀ c < 512, wn arg9 X9 t c = W t c)
    (m : ℕ) (hm : m ≤ k0_t1_loop.trips) :
    Group (convN H W) 0 m (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 X9 X20 m) := by
  induction m with
  | zero => exact Group.zero _ _
  | succ m ih =>
    obtain ⟨inb, V, e, hV⟩ := trip1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 X9 X20 ⟨m, hm⟩
    have := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 X9 X20 ⟨m, hm⟩
    rw [this, tripL_k0_t1, e]
    refine (ih (by omega)).succ ⟨inb, V, rfl, fun i l => (hV i l).trans (Finset.sum_congr rfl fun t _ => ?_)⟩
    have hm8 : m < 8 := Nat.lt_of_lt_of_le hm k0_t1_abs.2.1
    rw [hH _ (by show 64 * m + t + 2 + i < 544; omega) _ l.2, hW _ t.2 _ (by omega)]
    exact congrArg (fun ρ => H ρ _ * _) (by show 64 * m + t + 2 + i = 64 * m + i + t + 2; omega)

theorem group2 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (H W : ℕ → ℕ → EReal)
    (hH : ∀ ρ < 544, ∀ l < 128, hn arg20 X20 1 ρ l = H ρ (128 * 1 + l)) (hW : ∀ t < 31, ∀ c < 512, wn arg9 X9 t c = W t c)
    (m : ℕ) (hm : m ≤ k0_t2_loop.trips) :
    Group (convN H W) 1 m (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 m) := by
  induction m with
  | zero => exact Group.zero _ _
  | succ m ih =>
    obtain ⟨inb, V, e, hV⟩ := trip2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    have := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    rw [this, tripL_k0_t2, e]
    refine (ih (by omega)).succ ⟨inb, V, rfl, fun i l => (hV i l).trans (Finset.sum_congr rfl fun t _ => ?_)⟩
    have hm8 : m < 8 := Nat.lt_of_lt_of_le hm k0_t2_abs.2.1
    rw [hH _ (by show 64 * m + t + 2 + i < 544; omega) _ l.2, hW _ t.2 _ (by omega)]
    exact congrArg (fun ρ => H ρ _ * _) (by show 64 * m + t + 2 + i = 64 * m + i + t + 2; omega)

theorem group3 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (H W : ℕ → ℕ → EReal)
    (hH : ∀ ρ < 544, ∀ l < 128, hn arg20 X20 2 ρ l = H ρ (128 * 2 + l)) (hW : ∀ t < 31, ∀ c < 512, wn arg9 X9 t c = W t c)
    (m : ℕ) (hm : m ≤ k0_t3_loop.trips) :
    Group (convN H W) 2 m (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 m) := by
  induction m with
  | zero => exact Group.zero _ _
  | succ m ih =>
    obtain ⟨inb, V, e, hV⟩ := trip3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    have := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    rw [this, tripL_k0_t3, e]
    refine (ih (by omega)).succ ⟨inb, V, rfl, fun i l => (hV i l).trans (Finset.sum_congr rfl fun t _ => ?_)⟩
    have hm8 : m < 8 := Nat.lt_of_lt_of_le hm k0_t3_abs.2.1
    rw [hH _ (by show 64 * m + t + 2 + i < 544; omega) _ l.2, hW _ t.2 _ (by omega)]
    exact congrArg (fun ρ => H ρ _ * _) (by show 64 * m + t + 2 + i = 64 * m + i + t + 2; omega)

theorem group4 (𝒱 : Variants) (c : Dev nD) (bd : Option 𝒱.V) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (b0 b1 : BitVec 32)
    (X9 : BufTy.Contents (Elt Ideal) arg9.view.ty) (X20 : BufTy.Contents (Elt Ideal) arg20.view.ty) (H W : ℕ → ℕ → EReal)
    (hH : ∀ ρ < 544, ∀ l < 128, hn arg20 X20 3 ρ l = H ρ (128 * 3 + l)) (hW : ∀ t < 31, ∀ c < 512, wn arg9 X9 t c = W t c)
    (m : ℕ) (hm : m ≤ k0_t4_loop.trips) :
    Group (convN H W) 3 m (pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 m) := by
  induction m with
  | zero => exact Group.zero _ _
  | succ m ih =>
    obtain ⟨inb, V, e, hV⟩ := trip4 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    have := pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 X9 X20 ⟨m, hm⟩
    rw [this, tripL_k0_t4, e]
    refine (ih (by omega)).succ ⟨inb, V, rfl, fun i l => (hV i l).trans (Finset.sum_congr rfl fun t _ => ?_)⟩
    have hm8 : m < 8 := Nat.lt_of_lt_of_le hm k0_t4_abs.2.1
    rw [hH _ (by show 64 * m + t + 2 + i < 544; omega) _ l.2, hW _ t.2 _ (by omega)]
    exact congrArg (fun ρ => H ρ _ * _) (by show 64 * m + t + 2 + i = 64 * m + i + t + 2; omega)

end Cert.KernelIdeal.Gen

end
-- ==== Proof.KHalo.lean ====
module

public import proofs.«01_k».proof.Proof.KTail
public import Idealize.ShloMosaic.Lib.WritesUnit

/-! The carried buffer: what it reads after the body's stores into it. -/

@[expose] public section

set_option maxRecDepth 16384

noncomputable section

namespace Cert.KernelIdeal.Gen

open Idealize.ShloMosaic Idealize.ShloMosaic.TcCoe Cert.Layer

variable (a : Args)

/-- The convolution's input at a row of the tile and a channel, over natural coordinates. -/
def gn (r c : ℕ) : EReal := if h : r < 512 ∧ c < 512 then glu a.w (a.X ⟨r, h.1⟩) ⟨c, h.2⟩ else 0

theorem gn_eq (r c : Fin 512) : gn a r c = glu a.w (a.X r) c := dif_pos ⟨r.2, c.2⟩

abbrev zb : FVec Ideal S512x512 .f32 := k0_pay104 (k0_pay64 a.x0 a.x1 a.x2)
abbrev zg : FVec Ideal S512x512 .f32 := k0_pay105 (k0_pay64 a.x0 a.x1 a.x2)

theorem glu0_at (r : Fin 512) (l : Fin 128) : k0_pay107 (zb a) (zg a) (ix3 0 r l) = gn a r (128 * 0 + l) := by
  pointwise [k0_pay107, glu_at]
  rw [← gn_eq]

theorem glu1_at (r : Fin 512) (l : Fin 128) : k0_pay108 (zb a) (zg a) (ix3 0 r l) = gn a r (128 * 1 + l) := by
  pointwise [k0_pay108, glu_at]
  rw [← gn_eq]

theorem glu2_at (r : Fin 512) (l : Fin 128) : k0_pay109 (zb a) (zg a) (ix3 0 r l) = gn a r (128 * 2 + l) := by
  pointwise [k0_pay109, glu_at]
  rw [← gn_eq]

theorem glu3_at (r : Fin 512) (l : Fin 128) : k0_pay110 (zb a) (zg a) (ix3 0 r l) = gn a r (128 * 3 + l) := by
  pointwise [k0_pay110, glu_at]
  rw [← gn_eq]

abbrev Contents3 : Type := Fin 4 → Fin 544 → Fin 128 → EReal
local notation "Piece3" => View.Piece (Elt Ideal) S4x544x128 EltTy.f32

/-- What the buffer reads after the stores `L` over `f`. -/
def Rd (v : View sig .tc .vmem S4x544x128 .f32) (f : v.ty.Contents (Elt Ideal)) (L : List Piece3) (K : Contents3) : Prop :=
  ∀ g ρ l, v.read (Elt Ideal) (v.writes (Elt Ideal) f L) (ix3 g ρ l) = K g ρ l

/-- The contents once the tile is stored from row 32 on and the first `j` lane groups' halos are replaced. -/
def KJ (h0 : Contents3) (j : ℕ) : Contents3 := fun g ρ l =>
  if ρ.val < 32 then (if g.val < j then gn a (480 + ρ) (128 * g + l) else h0 g ρ l) else gn a (ρ - 32) (128 * g + l)

/-- A store into one lane group at rows `R …` of the buffer. -/
theorem Rd.group {v : View sig .tc .vmem S4x544x128 .f32} {f : v.ty.Contents (Elt Ideal)} {L : List Piece3} {K : Contents3}
    (h : Rd v f L K) (j R N : ℕ) (inb : ∀ a, (![j, R, 0] : Fin 3 → ℕ) a + (![1, N, 128] : Fin 3 → ℕ) a ≤ S4x544x128.size a)
    (V : (Rect.unit (s := S4x544x128) ![j, R, 0] ![1, N, 128] inb).shape.Idx → EReal) (G : ℕ → ℕ → EReal)
    (hV : ∀ (i : Fin N) (l : Fin 128), V (ix3 0 i l) = G i l) :
    Rd v f (⟨Rect.unit (s := S4x544x128) ![j, R, 0] ![1, N, 128] inb, V⟩ :: L)
      (fun g ρ l => if g.val = j ∧ R ≤ ρ.val ∧ ρ.val < R + N then G (ρ - R) l else K g ρ l) := by
  intro g ρ l
  beta_reduce
  by_cases hg : g.val = j ∧ R ≤ ρ.val ∧ ρ.val < R + N
  · rw [if_pos hg]
    refine (View.read_writes_cons_unit_of_mem v f inb V L (ix3 g ρ l) (ix3 0 ⟨ρ - R, by omega⟩ l) rfl fun x => ?_).trans (hV _ _)
    match x with
    | ⟨0, _⟩ => show g.val = j + 0; omega
    | ⟨1, _⟩ => show ρ.val = R + (ρ.val - R); omega
    | ⟨2, _⟩ => show l.val = 0 + l.val; omega
  · rw [if_neg hg, ← h g ρ l]
    by_cases hj : g.val = j
    · refine View.read_writes_cons_unit_of_not_mem v f inb V L (ix3 g ρ l) rfl 1 ?_
      show ρ.val < R ∨ R + N ≤ ρ.val
      omega
    · refine View.read_writes_cons_unit_of_not_mem v f inb V L (ix3 g ρ l) rfl 0 ?_
      show g.val < j ∨ j + 1 ≤ g.val
      omega

/-- The tile's four lane groups stored below the halo. -/
def gluP (L : List Piece3) : List Piece3 :=
  ⟨Rect.unit (s := S4x544x128) ![3, 32, 0] S1x512x128.size inb_S4x544x128_S1x512x128_3_32_0, k0_pay110 (zb a) (zg a)⟩
  :: ⟨Rect.unit (s := S4x544x128) ![2, 32, 0] S1x512x128.size inb_S4x544x128_S1x512x128_2_32_0, k0_pay109 (zb a) (zg a)⟩
  :: ⟨Rect.unit (s := S4x544x128) ![1, 32, 0] S1x512x128.size inb_S4x544x128_S1x512x128_1_32_0, k0_pay108 (zb a) (zg a)⟩
  :: ⟨Rect.unit (s := S4x544x128) ![0, 32, 0] S1x512x128.size inb_S4x544x128_S1x512x128_0_32_0, k0_pay107 (zb a) (zg a)⟩ :: L

theorem Rd.glu {v : View sig .tc .vmem S4x544x128 .f32} {f : v.ty.Contents (Elt Ideal)} {L : List Piece3} {K : Contents3}
    (h : Rd v f L K) : Rd v f (gluP a L) (KJ a K 0) := by
  have h0 := h.group 0 32 512 inb_S4x544x128_S1x512x128_0_32_0 (k0_pay107 (zb a) (zg a)) (fun r l => gn a r (128 * 0 + l)) (glu0_at a)
  have h1 := h0.group 1 32 512 inb_S4x544x128_S1x512x128_1_32_0 (k0_pay108 (zb a) (zg a)) (fun r l => gn a r (128 * 1 + l)) (glu1_at a)
  have h2 := h1.group 2 32 512 inb_S4x544x128_S1x512x128_2_32_0 (k0_pay109 (zb a) (zg a)) (fun r l => gn a r (128 * 2 + l)) (glu2_at a)
  have h3 := h2.group 3 32 512 inb_S4x544x128_S1x512x128_3_32_0 (k0_pay110 (zb a) (zg a)) (fun r l => gn a r (128 * 3 + l)) (glu3_at a)
  intro g ρ l
  refine (h3 g ρ l).trans ?_
  unfold KJ
  beta_reduce
  by_cases hρ : ρ.val < 32
  · rw [if_pos hρ, if_neg (by omega), if_neg (by omega), if_neg (by omega), if_neg (by omega), if_neg (by omega)]
  · rw [if_neg hρ]
    have b : 32 ≤ ρ.val ∧ ρ.val < 32 + 512 := ⟨by omega, by omega⟩
    rcases (by omega : g.val = 0 ∨ g.val = 1 ∨ g.val = 2 ∨ g.val = 3) with e | e | e | e <;> simp [e, b]

/-- One lane group's last rows copied to its halo. -/
theorem Rd.halo {v : View sig .tc .vmem S4x544x128 .f32} {f : v.ty.Contents (Elt Ideal)} {L : List Piece3} {K : Contents3}
    (j : ℕ) (h : Rd v f L (KJ a K j)) (inb : ∀ a, (![j, 0, 0] : Fin 3 → ℕ) a + (![1, 32, 128] : Fin 3 → ℕ) a ≤ S4x544x128.size a)
    (V : (Rect.unit (s := S4x544x128) ![j, 0, 0] ![1, 32, 128] inb).shape.Idx → EReal)
    (hV : ∀ (i : Fin 32) (l : Fin 128), V (ix3 0 i l) = gn a (480 + i) (128 * j + l)) :
    Rd v f (⟨Rect.unit (s := S4x544x128) ![j, 0, 0] ![1, 32, 128] inb, V⟩ :: L) (KJ a K (j + 1)) := by
  intro g ρ l
  refine (h.group j 0 32 inb V (fun i l => gn a (480 + i) (128 * j + l)) hV g ρ l).trans ?_
  unfold KJ
  beta_reduce
  by_cases hρ : ρ.val < 32
  · by_cases hg : g.val = j
    · rw [if_pos ⟨hg, by omega, by omega⟩, if_pos hρ, if_pos (by omega), hg, Nat.sub_zero]
    · rw [if_neg (by omega), if_pos hρ, if_pos hρ]
      exact if_congr (by omega) rfl rfl
  · rw [if_neg (by omega), if_neg hρ, if_neg hρ]

/-- A load of a lane group's last 32 rows. -/
theorem Rd.last {v : View sig .tc .vmem S4x544x128 .f32} {f : v.ty.Contents (Elt Ideal)} {L : List Piece3} {K : Contents3}
    {k : ℕ} (h : Rd v f L (KJ a K k)) (j : ℕ) (hj : j < 4)
    (inb : ∀ a, (![j, 512, 0] : Fin 3 → ℕ) a + (![1, 32, 128] : Fin 3 → ℕ) a ≤ S4x544x128.size a) (i : Fin 32) (l : Fin 128) :
    v.readAt (Elt Ideal) (Rect.unit (s := S4x544x128) ![j, 512, 0] ![1, 32, 128] inb).toLoadRect
      (v.writes (Elt Ideal) f L) (ix3 0 i l) = gn a (480 + i) (128 * j + l) := by
  rw [View.readAt_apply]
  refine Eq.trans (congrArg (v.read (Elt Ideal) _) (funext fun x => Fin.ext ?_ : _ = ix3 (⟨j, hj⟩ : Fin 4) (⟨512 + i, by omega⟩ : Fin 544) l)) ?_
  · match x with
    | ⟨0, _⟩ => show j + 1 * 0 = j; omega
    | ⟨1, _⟩ => show 512 + 1 * i.val = 512 + i.val; omega
    | ⟨2, _⟩ => show 0 + 1 * l.val = l.val; omega
  · rw [h]
    unfold KJ
    rw [if_neg (by show ¬ 512 + i.val < 32; omega)]
    exact congrArg (fun r => gn a r _) (by show 512 + i.val - 32 = 480 + i.val; omega)

theorem copy_at (V : Vec Ideal S1x32x128 .f32) (i : Fin 32) (l : Fin 128) :
    k0_pay112 V (ix3 0 i l) = V (ix3 0 i l) ∧ k0_pay114 V (ix3 0 i l) = V (ix3 0 i l)
      ∧ k0_pay116 V (ix3 0 i l) = V (ix3 0 i l) ∧ k0_pay118 V (ix3 0 i l) = V (ix3 0 i l) := by
  refine ⟨?_, ?_, ?_, ?_⟩
  · pointwise [k0_pay112]
  · pointwise [k0_pay114]
  · pointwise [k0_pay116]
  · pointwise [k0_pay118]

end Cert.KernelIdeal.Gen

end
-- ==== Proof.KBuf.lean ====
module

public import proofs.«01_k».proof.Proof.KConvAll
public import proofs.«01_k».proof.Proof.KHalo
public import Idealize.ShloMosaic.Lib.VecWindow

/-! The convolution's buffer, read after the four loops over the carried buffer's stores. -/

@[expose] public section

set_option maxRecDepth 16384

noncomputable section

namespace Cert.KernelIdeal.Gen

open Idealize.ShloMosaic Idealize.ShloMosaic.TcCoe Cert.Layer

variable (a : Args)

/-- A load of a whole operand. -/
theorem load_full {κ : Kind} {sp : Space} {s : Shape} {e : EltTy} {m : Memref sig κ sp s e} (hm : m.IsWhole)
    (x : s.Idx → Elt Ideal e) {off : Fin s.rank → ℕ} (inb : ∀ a, off a + s.size a ≤ s.size a) :
    m.view.readAt (Elt Ideal) (Rect.unit off s.size inb).toLoadRect (hm.unread x) = x := by
  rw [View.readAt_full, hm.read_unread]

/-- The convolution's input: `h0`'s 32 rows of the tile before, then the tile's. -/
def hbOf (h0 : Contents3) (ρ : Fin 544) (c : Fin 512) : EReal := KJ a h0 0 ⟨c / 128, by omega⟩ ρ ⟨c % 128, by omega⟩

/-- The same over natural coordinates. -/
def hbN (h0 : Contents3) (ρ c : ℕ) : EReal := if h : ρ < 544 ∧ c < 512 then hbOf a h0 ⟨ρ, h.1⟩ ⟨c, h.2⟩ else 0

theorem Rd.hn_eq {m : Memref sig .tc .vmem S4x544x128 .f32} {f : m.view.ty.Contents (Elt Ideal)}
    {L : List (View.Piece (Elt Ideal) S4x544x128 .f32)} {h0 : Contents3} (j : ℕ) (hj : j < 4) (h : Rd m.view f L (KJ a h0 j))
    (ρ : ℕ) (hρ : ρ < 544) (l : ℕ) (hl : l < 128) :
    hn m (m.view.writes (Elt Ideal) f L) j ρ l = hbN a h0 ρ (128 * j + l) := by
  have e1 : (128 * j + l) / 128 = j := by omega
  have e2 : (128 * j + l) % 128 = l := by omega
  rw [hn, dif_pos ⟨hj, hρ, hl⟩, h, hbN, dif_pos ⟨hρ, by omega⟩, hbOf]
  simp only [e1, e2, KJ, lt_irrefl, Nat.not_lt_zero, if_false]

theorem wn_eq (m : Memref sig .tc .vmem S31x512 .f32) (hm : m.IsWhole) (x : Vec Ideal S31x512 .f32) (t : ℕ) (ht : t < 31) (c : ℕ)
    (hc : c < 512) : wn m (hm.unread x) t c = if h : t < 31 ∧ c < 512 then x (ix2 ⟨t, h.1⟩ ⟨c, h.2⟩) else 0 := by
  rw [wn, dif_pos ⟨ht, hc⟩, dif_pos ⟨ht, hc⟩, hm.read_unread]

theorem ws_inb (h : Fin 4) (x : Fin 3) : (![h.val, 0, 0] : Fin 3 → ℕ) x + S1x128x128.size x ≤ S4x128x128.size x := by
  match x with
  | ⟨0, _⟩ => show h.val + 1 ≤ 4; omega
  | ⟨1, _⟩ => show 0 + 128 ≤ 128; omega
  | ⟨2, _⟩ => show 0 + 128 ≤ 128; omega

theorem bs_inb (h : Fin 4) (x : Fin 2) : (![0, 128 * h.val] : Fin 2 → ℕ) x + S128x128.size x ≤ S128x512.size x := by
  match x with
  | ⟨0, _⟩ => show 0 + 128 ≤ 128; omega
  | ⟨1, _⟩ => show 128 * h.val + 128 ≤ 512; omega

theorem ws_at (m : Memref sig .tc .vmem S4x128x128 .f32) (hm : m.IsWhole) (h : Fin 4) (i k : Fin 128) :
    m.view.readAt (Elt Ideal) (Rect.unit (s := S4x128x128) ![h.val, 0, 0] S1x128x128.size (ws_inb h)).toLoadRect
      (hm.unread a.x5) (ix3 0 i k) = a.w.ws h i k := by
  rw [View.readAt_apply, hm.read_unread]
  refine congrArg a.x5 (funext fun x => Fin.ext ?_)
  match x with
  | ⟨0, _⟩ => show h.val + 1 * 0 = h.val; omega
  | ⟨1, _⟩ => show 0 + 1 * i.val = i.val; omega
  | ⟨2, _⟩ => show 0 + 1 * k.val = k.val; omega

theorem bs_at (m : Memref sig .tc .vmem S128x512 .f32) (hm : m.IsWhole) (h : Fin 4) (i c : Fin 128) :
    m.view.readAt (Elt Ideal) (Rect.unit (s := S128x512) ![0, 128 * h.val] S128x128.size (bs_inb h)).toLoadRect
      (hm.unread a.x6) (ix2 i c) = a.w.bs ⟨128 * h + c, by omega⟩ i := by
  rw [View.readAt_apply, hm.read_unread]
  refine congrArg a.x6 (funext fun x => Fin.ext ?_)
  match x with
  | ⟨0, _⟩ => show 0 + 1 * i.val = i.val; omega
  | ⟨1, _⟩ => show 128 * h.val + 1 * c.val = 128 * h.val + c.val; omega

theorem conv_at (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole)  (v296 v299 : FVec Ideal S512x512 .f32) (b0 b1 b2 b3 b4 b5 : BitVec 32)
    (f20 : arg20.view.ty.Contents (Elt Ideal)) (M0 M1 M2 M3 : List (View.Piece (Elt Ideal) S4x544x128 .f32)) (h0 : Contents3)
    (hR0 : Rd arg20.view f20 M0 (KJ a h0 0)) (hR1 : Rd arg20.view f20 M1 (KJ a h0 1)) (hR2 : Rd arg20.view f20 M2 (KJ a h0 2))
    (hR3 : Rd arg20.view f20 M3 (KJ a h0 3)) (fs1 : arg21.view.ty.Contents (Elt Ideal)) (r q : Fin 512) :
    arg21.view.readAt (Elt Ideal) (Rect.unit (s := S512x512) ![0, 0] S512x512.size inb_S512x512_S512x512_0_0).toLoadRect
      (arg21.view.writes (Elt Ideal) fs1
        (pb_k0_t4 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b4 b5 (harg9.unread a.x7) (arg20.view.writes (Elt Ideal) f20 M3) (Scf.trips k0_t4_loop.lb k0_t4_loop.ub k0_t4_loop.st)
        ++ (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b2 b3 (harg9.unread a.x7) (arg20.view.writes (Elt Ideal) f20 M2) (Scf.trips k0_t3_loop.lb k0_t3_loop.ub k0_t3_loop.st)
        ++ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 (harg9.unread a.x7) (arg20.view.writes (Elt Ideal) f20 M1) (Scf.trips k0_t2_loop.lb k0_t2_loop.ub k0_t2_loop.st)
        ++ pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 (harg9.unread a.x7) (arg20.view.writes (Elt Ideal) f20 M0) (Scf.trips k0_t1_loop.lb k0_t1_loop.ub k0_t1_loop.st))))) (ix2 r q)
      = ∑ k : Fin 31, hbOf a h0 ⟨2 + k + r, by omega⟩ q * a.w.cw k q := by
  rw [View.readAt_full]
  have hW := wn_eq arg9 harg9 a.x7
  refine (cbuf_at arg21.view fs1 (convN (hbN a h0) fun t c => if h : t < 31 ∧ c < 512 then a.x7 (ix2 ⟨t, h.1⟩ ⟨c, h.2⟩) else 0)
    (group1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v296 v299 _ _ _ _ (hR0.hn_eq a 0 (by omega)) hW 8 le_rfl)
    (group2 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b0 b1 _ _ _ _ (hR1.hn_eq a 1 (by omega)) hW 8 le_rfl)
    (group3 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b2 b3 _ _ _ _ (hR2.hn_eq a 2 (by omega)) hW 8 le_rfl)
    (group4 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 b4 b5 _ _ _ _ (hR3.hn_eq a 3 (by omega)) hW 8 le_rfl) r q).trans ?_
  refine Finset.sum_congr rfl fun k _ => ?_
  beta_reduce
  rw [hbN, dif_pos ⟨by omega, q.2⟩, dif_pos ⟨k.2, q.2⟩]
  exact congrArg (fun ρ => hbOf a h0 ρ q * a.w.cw k q) (Fin.ext (by show r.val + k + 2 = 2 + k + r; omega))

end Cert.KernelIdeal.Gen

end
-- ==== Proof.KHead.lean ====
module

public import proofs.«01_k».proof.Proof.KPay
public import Idealize.ShloMosaic.Lib.VecWindow
public import Idealize.ShloMosaic.Lib.Ring

/-! The spatial gate's heads: the tiles the body stores in the left half of the mixed row, at an index. -/

@[expose] public section

set_option maxRecDepth 16384

noncomputable section

namespace Cert.KernelIdeal.Gen

open Idealize.ShloMosaic Cert.Layer

/-- The chunk mask. -/
def mask : IVec S128x128 1 := k0_pay72 k0_pay69 k0_pay70 k0_pay71

/-- Division of a position by the chunk's length, as the kernel spells it. -/
theorem chunk_at (k : Fin 128) :
    Scalar.select
      (IntOp.andi
        (IntOp.cmpi CmpIPredicate.ne
          (IntOp.subi (BitVec.setWidth 32 (IntOp.cmpi CmpIPredicate.sgt (BitVec.ofNat 32 k) 0#32))
            (BitVec.setWidth 32 (IntOp.cmpi CmpIPredicate.slt (BitVec.ofNat 32 k) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k) 64#32) 0#32))
      (IntOp.subi (IntOp.divsi ArithUnit.vector (BitVec.ofNat 32 k) 64#32) 1#32)
      (IntOp.divsi ArithUnit.vector (BitVec.ofNat 32 k) 64#32) = BitVec.ofNat 32 (k / 64) := by
  revert k
  decide +kernel

theorem mask_at (i k : Fin 128) :
    mask (ix2 i k) = IntOp.cmpi .sle (BitVec.ofNat 32 (k / 64)) (BitVec.ofNat 32 (i / 64)) := by
  unfold mask
  pointwise [k0_pay72, k0_pay69, k0_pay70, k0_pay71]
  exact congrArg₂ (IntOp.cmpi .sle) (chunk_at k) (chunk_at i)

variable (a : Args)

/-- The mixed row, as a function of the buffer's indices. -/
def yG (B : Fin 512 → Fin 512 → EReal) (y : S512x1024.Idx) : EReal :=
  mix (ya a.w (fun k => a.X ⟨(y 0).val / 128 * 128 + k, by have : (y 0).val < 512 := (y 0).isLt; omega⟩)
    ⟨(y 0).val % 128, by omega⟩) (B (y 0)) (y 1)

theorem vn_congr {r r' : Fin 512} {c c' : Fin 512} (hr : r.val = r'.val) (hc : c.val = c'.val) :
    vn a.w (a.X r) c = vn a.w (a.X r') c' := by
  obtain rfl := Fin.ext hr
  obtain rfl := Fin.ext hc
  rfl

/-- One head's tile, from the values the body's terms take at an index of it. -/
theorem tile_of (B : Fin 512 → Fin 512 → EReal) (y : S512x1024.Idx) (h : Fin 4) (i : Fin 128) (r : Fin 512) (c : Fin 512)
    (r' : Fin 512) (c' : Fin 1024) (c'' : Fin 512) (V : Fin 128 → EReal)
    (hyr : (y 0).val = r.val) (hyc : (y 1).val = c.val)
    (hi : r.val % 128 = i.val) (hc : c.val / 128 = h.val) (hr' : r'.val = r.val) (hc' : c'.val = c.val) (hc'' : c''.val = c.val)
    (hV : ∀ k : Fin 128, V k = vn a.w (a.X ⟨r / 128 * 128 + k, by omega⟩) c) :
    uv a.w (a.X r') c' * ((∑ k : Fin 128, (if k.val / 64 ≤ i.val / 64 then a.w.ws h i k else 0) * V k) + a.w.bs c'' i)
      = yG a B y := by
  obtain rfl : r' = r := Fin.ext hr'
  obtain rfl : c'' = c := Fin.ext hc''
  have e1 : c' = ⟨c'', by omega⟩ := Fin.ext hc'
  have e2 : (⟨r' % 128, by omega⟩ : Fin 128) = i := Fin.ext hi
  have e3 : (⟨c'' / 128, by omega⟩ : Fin 4) = h := Fin.ext hc
  have ey : y = ix2 r' ⟨c'', by omega⟩ := by
    funext d; refine d.cases ?_ fun d => d.cases ?_ fun d => d.elim0
    · exact Fin.ext hyr
    · exact Fin.ext hyc
  rw [ey]
  show _ = mix (ya a.w (fun k => a.X ⟨r' / 128 * 128 + k, by omega⟩) ⟨r' % 128, by omega⟩) (B r') ⟨c'', by omega⟩
  unfold mix
  rw [dif_pos c''.2]
  unfold ya sg
  have er : (⟨r' / 128 * 128 + (⟨r' % 128, by omega⟩ : Fin 128).val, by omega⟩ : Fin 512) = r' :=
    Fin.ext (by show r'.val / 128 * 128 + r'.val % 128 = _; omega)
  beta_reduce
  rw [er, e2]
  simp only [hV, ite_mul, zero_mul, ← e3]
  exact congrArg (fun d => uv a.w (a.X r') d * _) e1

/-- The tile of head `h`, stored at rows `R` and columns `C`. -/
theorem tile_at (B : Fin 512 → Fin 512 → EReal) (h : Fin 4) (R C : ℕ) (inb) (i d : Fin 128) (hR : R % 128 = 0) (hR' : R ≤ 384)
    (hC : C = 128 * h) (r' : Fin 512) (c' : Fin 1024) (c'' : Fin 512) (V : Fin 128 → EReal)
    (hr' : r'.val = R + i) (hc' : c'.val = C + d) (hc'' : c''.val = C + d)
    (hV : ∀ k : Fin 128, V k = vn a.w (a.X ⟨R + k, by omega⟩) ⟨C + d, by omega⟩) :
    uv a.w (a.X r') c' * ((∑ k : Fin 128, (if k.val / 64 ≤ i.val / 64 then a.w.ws h i k else 0) * V k) + a.w.bs c'' i)
      = yG a B ((Rect.unit (s := S512x1024) ![R, C] ![128, 128] inb).emb (ix2 i d)) := by
  refine tile_of a B _ h i ⟨R + i, by omega⟩ ⟨C + d, by omega⟩ _ _ _ _ ?_ ?_ ?_ ?_ hr' hc' hc''
    fun k => (hV k).trans (vn_congr a ?_ rfl)
  · show R + 1 * i.val = R + i.val
    omega
  · show C + 1 * d.val = C + d.val
    omega
  · show (R + i.val) % 128 = i.val
    omega
  · show (C + d.val) / 128 = h.val
    omega
  · show R + k.val = (R + i.val) / 128 * 128 + k.val
    omega

/-- The mixed row's buffer after the body's seventeen stores: the sixteen tiles of the spatial gate, and the convolution
    mixer's half. -/
theorem y_at {κ : Kind} {sp : Space} (vw : View sig κ sp S512x1024 .bf16)
    (u : FVec Ideal S512x512 .f32) (v : FVec Ideal S512x512 .bf16) (q : FVec Ideal S512x512 .bf16)
    (ws : Fin 4 → Vec Ideal S1x128x128 .f32) (bs : Fin 4 → Vec Ideal S128x128 .f32) (B : Fin 512 → Fin 512 → EReal)
    (hu : ∀ r j, u (ix2 r j) = uv a.w (a.X r) ⟨j, by omega⟩) (hv : ∀ r j, v (ix2 r j) = vn a.w (a.X r) j)
    (hq : ∀ r j, q (ix2 r j) = B r j) (hw : ∀ h i k, ws h (ix3 0 i k) = a.w.ws h i k)
    (hb : ∀ h i c, bs h (ix2 i c) = a.w.bs ⟨128 * h + c, by omega⟩ i) (r : Fin 512) (j : Fin 1024) :
    vw.readCov (Val := Elt Ideal) [
      ⟨Rect.unit ![0, 512] S512x512.size inb_S512x1024_S512x512_0_512, q⟩,
      ⟨Rect.unit ![384, 384] S128x128.size inb_S512x1024_S128x128_384_384, k0_pay102 u v (k0_pay95 mask (ws 3)) (k0_pay96 v) (bs 3)⟩,
      ⟨Rect.unit ![256, 384] S128x128.size inb_S512x1024_S128x128_256_384, k0_pay101 u v (k0_pay95 mask (ws 3)) (k0_pay96 v) (bs 3)⟩,
      ⟨Rect.unit ![128, 384] S128x128.size inb_S512x1024_S128x128_128_384, k0_pay100 u v (k0_pay95 mask (ws 3)) (k0_pay96 v) (bs 3)⟩,
      ⟨Rect.unit ![0, 384] S128x128.size inb_S512x1024_S128x128_0_384, k0_pay99 u v (k0_pay95 mask (ws 3)) (k0_pay96 v) (bs 3)⟩,
      ⟨Rect.unit ![384, 256] S128x128.size inb_S512x1024_S128x128_384_256, k0_pay94 u (k0_pay87 mask (ws 2)) (k0_pay88 v) (bs 2)⟩,
      ⟨Rect.unit ![256, 256] S128x128.size inb_S512x1024_S128x128_256_256, k0_pay93 u (k0_pay87 mask (ws 2)) (k0_pay88 v) (bs 2)⟩,
      ⟨Rect.unit ![128, 256] S128x128.size inb_S512x1024_S128x128_128_256, k0_pay92 u (k0_pay87 mask (ws 2)) (k0_pay88 v) (bs 2)⟩,
      ⟨Rect.unit ![0, 256] S128x128.size inb_S512x1024_S128x128_0_256, k0_pay91 u (k0_pay87 mask (ws 2)) (k0_pay88 v) (bs 2)⟩,
      ⟨Rect.unit ![384, 128] S128x128.size inb_S512x1024_S128x128_384_128, k0_pay86 u (k0_pay81 v mask (ws 1)) (bs 1)⟩,
      ⟨Rect.unit ![256, 128] S128x128.size inb_S512x1024_S128x128_256_128, k0_pay85 u (k0_pay81 v mask (ws 1)) (bs 1)⟩,
      ⟨Rect.unit ![128, 128] S128x128.size inb_S512x1024_S128x128_128_128, k0_pay84 u (k0_pay81 v mask (ws 1)) (bs 1)⟩,
      ⟨Rect.unit ![0, 128] S128x128.size inb_S512x1024_S128x128_0_128, k0_pay83 u (k0_pay81 v mask (ws 1)) (bs 1)⟩,
      ⟨Rect.unit ![384, 0] S128x128.size inb_S512x1024_S128x128_384_0, k0_pay80 u (k0_pay73 v k0_pay69 k0_pay70 k0_pay71 (ws 0)) (k0_pay74 (bs 0))⟩,
      ⟨Rect.unit ![256, 0] S128x128.size inb_S512x1024_S128x128_256_0, k0_pay79 u (k0_pay73 v k0_pay69 k0_pay70 k0_pay71 (ws 0)) (k0_pay74 (bs 0))⟩,
      ⟨Rect.unit ![128, 0] S128x128.size inb_S512x1024_S128x128_128_0, k0_pay78 u (k0_pay73 v k0_pay69 k0_pay70 k0_pay71 (ws 0)) (k0_pay74 (bs 0))⟩,
      ⟨Rect.unit ![0, 0] S128x128.size inb_S512x1024_S128x128_0_0, k0_pay77 (k0_pay74 (bs 0)) (k0_pay75 u) (k0_pay76 v k0_pay69 k0_pay70 k0_pay71 (ws 0))⟩]
      (Rect.unit ![0, 0] S512x1024.size inb_S512x1024_S512x1024_0_0).toLoadRect (ix2 r j)
    = mix (ya a.w (fun k => a.X ⟨r / 128 * 128 + k, by omega⟩) ⟨r % 128, by omega⟩) (B r) j := by
  unfold View.readCov
  rw [View.readAt_full]
  refine (View.read_writes_apply_of_pieces (Val := Elt Ideal) vw _ (yG a B) _ ?_ _
    (View.cover_of_tiledBy _ ![128, 128] (by sl_kernel_rfl) _)).trans ?_
  swap; · rfl
  have hmask : k0_pay72 k0_pay69 k0_pay70 k0_pay71 = mask := rfl
  simp only [List.forall_mem_cons, List.not_mem_nil, false_imp_iff, implies_true, and_true]
  refine ⟨?_, ?_, ?_, ?_, ?_, ?_, ?_, ?_, ?_, ?_, ?_, ?_, ?_, ?_, ?_, ?_, ?_⟩
  · intro x; idx_vars x
    rw [hq]
    show _ = mix _ _ _
    unfold mix
    rw [dif_neg (by show ¬ (512 + 1 * x1.val < 512); omega)]
    exact congrArg₂ B (Fin.ext (by show x0.val = 0 + 1 * x0.val; omega)) (Fin.ext (by show x1.val = 512 + 1 * x1.val - 512; omega))
  all_goals
    intro x; idx_vars x
    pointwise [k0_pay102, k0_pay101, k0_pay100, k0_pay99, k0_pay98, k0_pay97, k0_pay96, k0_pay95, k0_pay94, k0_pay93,
      k0_pay92, k0_pay91, k0_pay90, k0_pay89, k0_pay88, k0_pay87, k0_pay86, k0_pay85, k0_pay84, k0_pay83, k0_pay82,
      k0_pay81, k0_pay80, k0_pay79, k0_pay78, k0_pay77, k0_pay76, k0_pay75, k0_pay74, k0_pay73, hmask, mask_at, sel_le,
      hu, hv, hw, hb]
    try simp (disch := omega) only [dif_pos, dif_neg]
  all_goals
    refine tile_at a B _ _ _ _ x0 x1 (by norm_num) (by norm_num) rfl _ _ _ _ ?_ ?_ ?_ fun k => vn_congr a ?_ ?_
  all_goals
    simp only [Fin.val_ofNat] <;> omega

end Cert.KernelIdeal.Gen

end
-- ==== Proof.KRunA.lean ====
module

public import proofs.«01_k».proof.Proof.RunA
public import proofs.«01_k».proof.Proof.KBuf
public import proofs.«01_k».proof.Proof.KHead

/-! What the body leaves at a point that is a sequence's first tile: the result tile and the carried buffer. -/

@[expose] public section

set_option maxRecDepth 16384

noncomputable section

namespace Cert.KernelIdeal.Gen

open Idealize.ShloMosaic Idealize.ShloMosaic.TcCoe Cert.Layer

variable (a : Args)

namespace RunA

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole)

theorem u_eq : runA.sl.r_2 (F := Ideal) c arg2 harg2 arg3 harg3 arg4 harg4 a.x0 a.x1 a.x2 = k0_pay66 a.x0 a.x1 a.x2 := by
  delta runA.sl.r_2
  repeat rw [load_full]

theorem v_eq : runA.sl.r_4 (F := Ideal) c arg2 harg2 arg3 harg3 arg4 harg4 arg5 harg5 arg6 harg6 a.x0 a.x1 a.x2 a.x3 a.x4 = k0_pay68 (k0_pay67 a.x0 a.x1 a.x2) a.x3 a.x4 := by
  delta runA.sl.r_4 runA.sl.r_3
  repeat rw [load_full]

theorem zb_eq : runA.sl.r_14 (F := Ideal) c arg2 harg2 arg3 harg3 arg4 harg4 a.x0 a.x1 a.x2 = zb a := by
  delta runA.sl.r_14 runA.sl.r_1
  repeat rw [load_full]

theorem zg_eq : runA.sl.r_15 (F := Ideal) c arg2 harg2 arg3 harg3 arg4 harg4 a.x0 a.x1 a.x2 = zg a := by
  delta runA.sl.r_15 runA.sl.r_1
  repeat rw [load_full]

local notation "Piece3" => View.Piece (Elt Ideal) S4x544x128 EltTy.f32

/-- The stores before the tile's. -/
def L0 : List Piece3 := ([⟨Rect.unit (s := S4x544x128) ![0, 0, 0] S4x32x128.size inb_S4x544x128_S4x32x128_0_0_0, k0_pay62 (F := Ideal)⟩] : List Piece3)

/-- The carried buffer's halo rows when the tile is stored. -/
def H0 (f : arg20.view.ty.Contents (Elt Ideal)) : Contents3 := fun g ρ l =>
  arg20.view.read (Elt Ideal) (arg20.view.writes (Elt Ideal) f L0) (ix3 g ρ l)

theorem rd0 (f : arg20.view.ty.Contents (Elt Ideal)) : Rd arg20.view f (gluP a L0) (KJ a (H0 arg20 f) 0) :=
  Rd.glu a fun _ _ _ => rfl

theorem v323_at (i : Fin 32) (l : Fin 128) :
    runA.sl.v323 (F := Ideal) c arg2 harg2 arg3 harg3 arg4 harg4 arg20 a.x0 a.x1 a.x2 (ix3 0 i l) = gn a (480 + i) (128 * 0 + l) := by
  delta runA.sl.v323 runA.sl.HS0_5
  rw [zb_eq, zg_eq]
  exact (rd0 a arg20 _).last a 0 (by omega) inb_S4x544x128_S1x32x128_0_512_0 i l

theorem rd1 (f : arg20.view.ty.Contents (Elt Ideal)) :
    Rd arg20.view f (⟨Rect.unit (s := S4x544x128) ![0, 0, 0] S1x32x128.size inb_S4x544x128_S1x32x128_0_0_0, k0_pay112 (runA.sl.v323 (F := Ideal) c arg2 harg2 arg3 harg3 arg4 harg4 arg20 a.x0 a.x1 a.x2)⟩
      :: gluP a L0) (KJ a (H0 arg20 f) 1) :=
  (rd0 a arg20 f).halo a 0 _ _ fun i l => (copy_at _ i l).1.trans (v323_at a c arg2 harg2 arg3 harg3 arg4 harg4 arg20 i l)

theorem v329_at (i : Fin 32) (l : Fin 128) :
    runA.sl.v329 (F := Ideal) c arg2 harg2 arg3 harg3 arg4 harg4 arg20 a.x0 a.x1 a.x2 (ix3 0 i l) = gn a (480 + i) (128 * 1 + l) := by
  delta runA.sl.v329 runA.sl.HS0_5
  rw [zb_eq, zg_eq]
  exact (rd1 a c arg2 harg2 arg3 harg3 arg4 harg4 arg20 _).last a 1 (by omega) inb_S4x544x128_S1x32x128_1_512_0 i l

theorem rd2 (f : arg20.view.ty.Contents (Elt Ideal)) :
    Rd arg20.view f (⟨Rect.unit (s := S4x544x128) ![1, 0, 0] S1x32x128.size inb_S4x544x128_S1x32x128_1_0_0, k0_pay114 (runA.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runA.sl.v323 (F := Ideal) c arg2 harg2 arg3 harg3 arg4 harg4 arg20 a.x0 a.x1 a.x2)⟩
      :: gluP a L0) (KJ a (H0 arg20 f) 2) :=
  (rd1 a c arg2 harg2 arg3 harg3 arg4 harg4 arg20 f).halo a 1 _ _ fun i l => (copy_at _ i l).2.1.trans (v329_at a c arg2 harg2 arg3 harg3 arg4 harg4 arg20 i l)

theorem v335_at (i : Fin 32) (l : Fin 128) :
    runA.sl.v335 (F := Ideal) c arg2 harg2 arg3 harg3 arg4 harg4 arg20 a.x0 a.x1 a.x2 (ix3 0 i l) = gn a (480 + i) (128 * 2 + l) := by
  delta runA.sl.v335 runA.sl.HS0_5
  rw [zb_eq, zg_eq]
  exact (rd2 a c arg2 harg2 arg3 harg3 arg4 harg4 arg20 _).last a 2 (by omega) inb_S4x544x128_S1x32x128_2_512_0 i l

theorem rd3 (f : arg20.view.ty.Contents (Elt Ideal)) :
    Rd arg20.view f (⟨Rect.unit (s := S4x544x128) ![2, 0, 0] S1x32x128.size inb_S4x544x128_S1x32x128_2_0_0, k0_pay116 (runA.sl.v335 (F := Ideal) c arg2 harg2 arg3 harg3 arg4 harg4 arg20 a.x0 a.x1 a.x2)⟩
      :: ⟨Rect.unit (s := S4x544x128) ![1, 0, 0] S1x32x128.size inb_S4x544x128_S1x32x128_1_0_0, k0_pay114 (runA.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runA.sl.v323 (F := Ideal) c arg2 harg2 arg3 harg3 arg4 harg4 arg20 a.x0 a.x1 a.x2)⟩
      :: gluP a L0) (KJ a (H0 arg20 f) 3) :=
  (rd2 a c arg2 harg2 arg3 harg3 arg4 harg4 arg20 f).halo a 2 _ _ fun i l => (copy_at _ i l).2.2.1.trans (v335_at a c arg2 harg2 arg3 harg3 arg4 harg4 arg20 i l)

theorem v341_at (i : Fin 32) (l : Fin 128) :
    runA.sl.v341 (F := Ideal) c arg2 harg2 arg3 harg3 arg4 harg4 arg20 a.x0 a.x1 a.x2 (ix3 0 i l) = gn a (480 + i) (128 * 3 + l) := by
  delta runA.sl.v341 runA.sl.HS0_5
  rw [zb_eq, zg_eq]
  exact (rd3 a c arg2 harg2 arg3 harg3 arg4 harg4 arg20 _).last a 3 (by omega) inb_S4x544x128_S1x32x128_3_512_0 i l

theorem rd4 (f : arg20.view.ty.Contents (Elt Ideal)) :
    Rd arg20.view f (⟨Rect.unit (s := S4x544x128) ![3, 0, 0] S1x32x128.size inb_S4x544x128_S1x32x128_3_0_0, k0_pay118 (runA.sl.v341 (F := Ideal) c arg2 harg2 arg3 harg3 arg4 harg4 arg20 a.x0 a.x1 a.x2)⟩
      :: ⟨Rect.unit (s := S4x544x128) ![2, 0, 0] S1x32x128.size inb_S4x544x128_S1x32x128_2_0_0, k0_pay116 (runA.sl.v335 (F := Ideal) c arg2 harg2 arg3 harg3 arg4 harg4 arg20 a.x0 a.x1 a.x2)⟩
      :: ⟨Rect.unit (s := S4x544x128) ![1, 0, 0] S1x32x128.size inb_S4x544x128_S1x32x128_1_0_0, k0_pay114 (runA.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runA.sl.v323 (F := Ideal) c arg2 harg2 arg3 harg3 arg4 harg4 arg20 a.x0 a.x1 a.x2)⟩
      :: gluP a L0) (KJ a (H0 arg20 f) 4) :=
  (rd3 a c arg2 harg2 arg3 harg3 arg4 harg4 arg20 f).halo a 3 _ _ fun i l => (copy_at _ i l).2.2.2.trans (v341_at a c arg2 harg2 arg3 harg3 arg4 harg4 arg20 i l)

theorem v346_at (fs1 : arg21.view.ty.Contents (Elt Ideal)) (r q : Fin 512) :
    runA.sl.v346 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x7 fs1 (ix2 r q)
      = ∑ k : Fin 31, hbOf a (H0 arg20 arg20.view.junk) ⟨2 + k + r, by omega⟩ q * a.w.cw k q := by
  delta runA.sl.v346 runA.sl.HS0_5
  rw [zb_eq, zg_eq]
  exact conv_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ _ (rd0 a arg20 _) (rd1 a c arg2 harg2 arg3 harg3 arg4 harg4 arg20 _) (rd2 a c arg2 harg2 arg3 harg3 arg4 harg4 arg20 _)
    (rd3 a c arg2 harg2 arg3 harg3 arg4 harg4 arg20 _) fs1 r q

theorem v387_at (fs1 : arg21.view.ty.Contents (Elt Ideal)) (r : Fin 512) (j : Fin 1024) :
    runA.sl.v387 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x3 a.x4 a.x5 a.x6 a.x7 a.x8 a.x9 a.x10 fs1 (ix2 r j)
      = mix (ya a.w (fun k => a.X ⟨r / 128 * 128 + k, by omega⟩) ⟨r % 128, by omega⟩)
        (yb a.w fun k => hbOf a (H0 arg20 arg20.view.junk) ⟨2 + k + r, by omega⟩) j := by
  delta runA.sl.v387 runA.sl.HS2_17
  delta runA.sl.r_5 runA.sl.r_6 runA.sl.r_7 runA.sl.r_8 runA.sl.r_9 runA.sl.r_10 runA.sl.r_11 runA.sl.r_12 runA.sl.r_13 runA.sl.r_16
  rw [u_eq, v_eq]
  repeat rw [load_full]
  refine y_at a arg22.view _ _ _
    (fun h => arg7.view.readAt (Elt Ideal) (Rect.unit (s := S4x128x128) ![h.val, 0, 0] S1x128x128.size (ws_inb h)).toLoadRect (harg7.unread a.x5))
    (fun h => arg8.view.readAt (Elt Ideal) (Rect.unit (s := S128x512) ![0, 128 * h.val] S128x128.size (bs_inb h)).toLoadRect (harg8.unread a.x6))
    (fun r => yb a.w fun k => hbOf a (H0 arg20 arg20.view.junk) ⟨2 + k + r, by omega⟩) (u_at a) (vn_at a _ (v_at a)) ?_ ?_ ?_ r j
  · exact yb_at a _ _ (v346_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 fs1)
  · exact ws_at a arg7 harg7
  · exact bs_at a arg8 harg8

/-- The result tile. -/
theorem out_eq (hc0 : cond0_0 i) (xs0 : Vec Ideal S4x544x128 .f32) (fs1 : arg21.view.ty.Contents (Elt Ideal)) (v : View sig .tc .vmem S1x512x1024 .f32)
    (f : v.ty.Contents (Elt Ideal)) (r : Fin 512) (j : Fin 1024) :
    v.read (Elt Ideal) (v.writes (Elt Ideal) f ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).1 fs1)) (ix3 0 r j)
      = tile a.w a.X (hbOf a (H0 arg20 arg20.view.junk)) r j := by
  have e : (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).1 fs1
      = [⟨Rect.unit (s := S1x512x1024) ![0, 0, 0] S1x512x1024.size inb_S1x512x1024_S1x512x1024_0_0_0,
          outOf a (runA.sl.v387 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x3 a.x4 a.x5 a.x6 a.x7 a.x8 a.x9 a.x10 fs1)⟩] := by
    unfold runA
    dsimp only
    delta runA.sl.r_18 runA.sl.r_19 runA.sl.r_20 runA.sl.r_17 runA.sl.r runA.sl.cst_163
    repeat rw [load_full]
    rfl
  rw [e, View.read_writes_full]
  exact out_at a _ _ (v387_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 fs1) r j

/-- The carried buffer. -/
theorem hbuf_eq (hc0 : cond0_0 i) (xs0 : Vec Ideal S4x544x128 .f32) (f : arg20.view.ty.Contents (Elt Ideal)) :
    Rd arg20.view f (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).2.1 (KJ a (H0 arg20 f) 4) := by
  unfold runA
  dsimp only
  delta runA.sl.HS0_5
  rw [zb_eq, zg_eq]
  exact rd4 a c arg2 harg2 arg3 harg3 arg4 harg4 arg20 f

end RunA

end Cert.KernelIdeal.Gen

end
-- ==== Proof.KRunB.lean ====
module

public import proofs.«01_k».proof.Proof.RunB
public import proofs.«01_k».proof.Proof.KBuf
public import proofs.«01_k».proof.Proof.KHead

/-! What the body leaves at a point that is not a sequence's first tile: the result tile and the carried buffer. -/

@[expose] public section

set_option maxRecDepth 16384

noncomputable section

namespace Cert.KernelIdeal.Gen

open Idealize.ShloMosaic Idealize.ShloMosaic.TcCoe Cert.Layer

variable (a : Args)

namespace RunB

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole)

theorem u_eq : runB.sl.r_2 (F := Ideal) c arg2 harg2 arg3 harg3 arg4 harg4 a.x0 a.x1 a.x2 = k0_pay66 a.x0 a.x1 a.x2 := by
  delta runB.sl.r_2
  repeat rw [load_full]

theorem v_eq : runB.sl.r_4 (F := Ideal) c arg2 harg2 arg3 harg3 arg4 harg4 arg5 harg5 arg6 harg6 a.x0 a.x1 a.x2 a.x3 a.x4 = k0_pay68 (k0_pay67 a.x0 a.x1 a.x2) a.x3 a.x4 := by
  delta runB.sl.r_4 runB.sl.r_3
  repeat rw [load_full]

theorem zb_eq : runB.sl.r_14 (F := Ideal) c arg2 harg2 arg3 harg3 arg4 harg4 a.x0 a.x1 a.x2 = zb a := by
  delta runB.sl.r_14 runB.sl.r_1
  repeat rw [load_full]

theorem zg_eq : runB.sl.r_15 (F := Ideal) c arg2 harg2 arg3 harg3 arg4 harg4 a.x0 a.x1 a.x2 = zg a := by
  delta runB.sl.r_15 runB.sl.r_1
  repeat rw [load_full]

local notation "Piece3" => View.Piece (Elt Ideal) S4x544x128 EltTy.f32

/-- The stores before the tile's. -/
def L0 : List Piece3 := ([] : List Piece3)

/-- The carried buffer's halo rows when the tile is stored. -/
def H0 (f : arg20.view.ty.Contents (Elt Ideal)) : Contents3 := fun g ρ l =>
  arg20.view.read (Elt Ideal) (arg20.view.writes (Elt Ideal) f L0) (ix3 g ρ l)

theorem rd0 (f : arg20.view.ty.Contents (Elt Ideal)) : Rd arg20.view f (gluP a L0) (KJ a (H0 arg20 f) 0) :=
  Rd.glu a fun _ _ _ => rfl

theorem v323_at (i : Fin 32) (l : Fin 128) :
    runB.sl.v323 (F := Ideal) c arg2 harg2 arg3 harg3 arg4 harg4 arg20 a.x0 a.x1 a.x2 (ix3 0 i l) = gn a (480 + i) (128 * 0 + l) := by
  delta runB.sl.v323
  rw [zb_eq, zg_eq]
  exact (rd0 a arg20 _).last a 0 (by omega) inb_S4x544x128_S1x32x128_0_512_0 i l

theorem rd1 (f : arg20.view.ty.Contents (Elt Ideal)) :
    Rd arg20.view f (⟨Rect.unit (s := S4x544x128) ![0, 0, 0] S1x32x128.size inb_S4x544x128_S1x32x128_0_0_0, k0_pay112 (runB.sl.v323 (F := Ideal) c arg2 harg2 arg3 harg3 arg4 harg4 arg20 a.x0 a.x1 a.x2)⟩
      :: gluP a L0) (KJ a (H0 arg20 f) 1) :=
  (rd0 a arg20 f).halo a 0 _ _ fun i l => (copy_at _ i l).1.trans (v323_at a c arg2 harg2 arg3 harg3 arg4 harg4 arg20 i l)

theorem v329_at (i : Fin 32) (l : Fin 128) :
    runB.sl.v329 (F := Ideal) c arg2 harg2 arg3 harg3 arg4 harg4 arg20 a.x0 a.x1 a.x2 (ix3 0 i l) = gn a (480 + i) (128 * 1 + l) := by
  delta runB.sl.v329
  rw [zb_eq, zg_eq]
  exact (rd1 a c arg2 harg2 arg3 harg3 arg4 harg4 arg20 _).last a 1 (by omega) inb_S4x544x128_S1x32x128_1_512_0 i l

theorem rd2 (f : arg20.view.ty.Contents (Elt Ideal)) :
    Rd arg20.view f (⟨Rect.unit (s := S4x544x128) ![1, 0, 0] S1x32x128.size inb_S4x544x128_S1x32x128_1_0_0, k0_pay114 (runB.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runB.sl.v323 (F := Ideal) c arg2 harg2 arg3 harg3 arg4 harg4 arg20 a.x0 a.x1 a.x2)⟩
      :: gluP a L0) (KJ a (H0 arg20 f) 2) :=
  (rd1 a c arg2 harg2 arg3 harg3 arg4 harg4 arg20 f).halo a 1 _ _ fun i l => (copy_at _ i l).2.1.trans (v329_at a c arg2 harg2 arg3 harg3 arg4 harg4 arg20 i l)

theorem v335_at (i : Fin 32) (l : Fin 128) :
    runB.sl.v335 (F := Ideal) c arg2 harg2 arg3 harg3 arg4 harg4 arg20 a.x0 a.x1 a.x2 (ix3 0 i l) = gn a (480 + i) (128 * 2 + l) := by
  delta runB.sl.v335
  rw [zb_eq, zg_eq]
  exact (rd2 a c arg2 harg2 arg3 harg3 arg4 harg4 arg20 _).last a 2 (by omega) inb_S4x544x128_S1x32x128_2_512_0 i l

theorem rd3 (f : arg20.view.ty.Contents (Elt Ideal)) :
    Rd arg20.view f (⟨Rect.unit (s := S4x544x128) ![2, 0, 0] S1x32x128.size inb_S4x544x128_S1x32x128_2_0_0, k0_pay116 (runB.sl.v335 (F := Ideal) c arg2 harg2 arg3 harg3 arg4 harg4 arg20 a.x0 a.x1 a.x2)⟩
      :: ⟨Rect.unit (s := S4x544x128) ![1, 0, 0] S1x32x128.size inb_S4x544x128_S1x32x128_1_0_0, k0_pay114 (runB.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runB.sl.v323 (F := Ideal) c arg2 harg2 arg3 harg3 arg4 harg4 arg20 a.x0 a.x1 a.x2)⟩
      :: gluP a L0) (KJ a (H0 arg20 f) 3) :=
  (rd2 a c arg2 harg2 arg3 harg3 arg4 harg4 arg20 f).halo a 2 _ _ fun i l => (copy_at _ i l).2.2.1.trans (v335_at a c arg2 harg2 arg3 harg3 arg4 harg4 arg20 i l)

theorem v341_at (i : Fin 32) (l : Fin 128) :
    runB.sl.v341 (F := Ideal) c arg2 harg2 arg3 harg3 arg4 harg4 arg20 a.x0 a.x1 a.x2 (ix3 0 i l) = gn a (480 + i) (128 * 3 + l) := by
  delta runB.sl.v341
  rw [zb_eq, zg_eq]
  exact (rd3 a c arg2 harg2 arg3 harg3 arg4 harg4 arg20 _).last a 3 (by omega) inb_S4x544x128_S1x32x128_3_512_0 i l

theorem rd4 (f : arg20.view.ty.Contents (Elt Ideal)) :
    Rd arg20.view f (⟨Rect.unit (s := S4x544x128) ![3, 0, 0] S1x32x128.size inb_S4x544x128_S1x32x128_3_0_0, k0_pay118 (runB.sl.v341 (F := Ideal) c arg2 harg2 arg3 harg3 arg4 harg4 arg20 a.x0 a.x1 a.x2)⟩
      :: ⟨Rect.unit (s := S4x544x128) ![2, 0, 0] S1x32x128.size inb_S4x544x128_S1x32x128_2_0_0, k0_pay116 (runB.sl.v335 (F := Ideal) c arg2 harg2 arg3 harg3 arg4 harg4 arg20 a.x0 a.x1 a.x2)⟩
      :: ⟨Rect.unit (s := S4x544x128) ![1, 0, 0] S1x32x128.size inb_S4x544x128_S1x32x128_1_0_0, k0_pay114 (runB.sl.v329 (F := Ideal) c arg2 harg2 arg3 harg3 arg4 harg4 arg20 a.x0 a.x1 a.x2)⟩
      :: ⟨Rect.unit (s := S4x544x128) ![0, 0, 0] S1x32x128.size inb_S4x544x128_S1x32x128_0_0_0, k0_pay112 (runB.sl.v323 (F := Ideal) c arg2 harg2 arg3 harg3 arg4 harg4 arg20 a.x0 a.x1 a.x2)⟩
      :: gluP a L0) (KJ a (H0 arg20 f) 4) :=
  (rd3 a c arg2 harg2 arg3 harg3 arg4 harg4 arg20 f).halo a 3 _ _ fun i l => (copy_at _ i l).2.2.2.trans (v341_at a c arg2 harg2 arg3 harg3 arg4 harg4 arg20 i l)

theorem v346_at (xs0 : Vec Ideal S4x544x128 .f32) (fs1 : arg21.view.ty.Contents (Elt Ideal)) (r q : Fin 512) :
    runB.sl.v346 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x7 xs0 fs1 (ix2 r q)
      = ∑ k : Fin 31, hbOf a (H0 arg20 (harg20.unread xs0)) ⟨2 + k + r, by omega⟩ q * a.w.cw k q := by
  delta runB.sl.v346
  rw [zb_eq, zg_eq]
  exact conv_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 _ _ _ _ _ _ _ _ _ _ _ _ _ _ (rd0 a arg20 _) (rd1 a c arg2 harg2 arg3 harg3 arg4 harg4 arg20 _) (rd2 a c arg2 harg2 arg3 harg3 arg4 harg4 arg20 _)
    (rd3 a c arg2 harg2 arg3 harg3 arg4 harg4 arg20 _) fs1 r q

theorem v387_at (xs0 : Vec Ideal S4x544x128 .f32) (fs1 : arg21.view.ty.Contents (Elt Ideal)) (r : Fin 512) (j : Fin 1024) :
    runB.sl.v387 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x3 a.x4 a.x5 a.x6 a.x7 a.x8 a.x9 a.x10 xs0 fs1 (ix2 r j)
      = mix (ya a.w (fun k => a.X ⟨r / 128 * 128 + k, by omega⟩) ⟨r % 128, by omega⟩)
        (yb a.w fun k => hbOf a (H0 arg20 (harg20.unread xs0)) ⟨2 + k + r, by omega⟩) j := by
  delta runB.sl.v387 runB.sl.HS2_17
  delta runB.sl.r_5 runB.sl.r_6 runB.sl.r_7 runB.sl.r_8 runB.sl.r_9 runB.sl.r_10 runB.sl.r_11 runB.sl.r_12 runB.sl.r_13 runB.sl.r_16
  rw [u_eq, v_eq]
  repeat rw [load_full]
  refine y_at a arg22.view _ _ _
    (fun h => arg7.view.readAt (Elt Ideal) (Rect.unit (s := S4x128x128) ![h.val, 0, 0] S1x128x128.size (ws_inb h)).toLoadRect (harg7.unread a.x5))
    (fun h => arg8.view.readAt (Elt Ideal) (Rect.unit (s := S128x512) ![0, 128 * h.val] S128x128.size (bs_inb h)).toLoadRect (harg8.unread a.x6))
    (fun r => yb a.w fun k => hbOf a (H0 arg20 (harg20.unread xs0)) ⟨2 + k + r, by omega⟩) (u_at a) (vn_at a _ (v_at a)) ?_ ?_ ?_ r j
  · exact yb_at a _ _ (v346_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 xs0 fs1)
  · exact ws_at a arg7 harg7
  · exact bs_at a arg8 harg8

/-- The result tile. -/
theorem out_eq (hc0 : ¬cond0_0 i) (xs0 : Vec Ideal S4x544x128 .f32) (fs1 : arg21.view.ty.Contents (Elt Ideal)) (v : View sig .tc .vmem S1x512x1024 .f32)
    (f : v.ty.Contents (Elt Ideal)) (r : Fin 512) (j : Fin 1024) :
    v.read (Elt Ideal) (v.writes (Elt Ideal) f ((runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).1 fs1)) (ix3 0 r j)
      = tile a.w a.X (hbOf a (H0 arg20 (harg20.unread xs0))) r j := by
  have e : (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).1 fs1
      = [⟨Rect.unit (s := S1x512x1024) ![0, 0, 0] S1x512x1024.size inb_S1x512x1024_S1x512x1024_0_0_0,
          outOf a (runB.sl.v387 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 a.x0 a.x1 a.x2 a.x3 a.x4 a.x5 a.x6 a.x7 a.x8 a.x9 a.x10 xs0 fs1)⟩] := by
    unfold runB
    dsimp only
    delta runB.sl.r_18 runB.sl.r_19 runB.sl.r_20 runB.sl.r_17 runB.sl.r runB.sl.cst_163
    repeat rw [load_full]
    rfl
  rw [e, View.read_writes_full]
  exact out_at a _ _ (v387_at a c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 xs0 fs1) r j

/-- The carried buffer. -/
theorem hbuf_eq (hc0 : ¬cond0_0 i) (xs0 : Vec Ideal S4x544x128 .f32) (f : arg20.view.ty.Contents (Elt Ideal)) :
    Rd arg20.view f (runB (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 a.x0 a.x1 a.x2 a.x3 a.x4 a.x5 a.x6 a.x7 a.x8 a.x9 a.x10 a.x11 a.x12 a.x13 a.x14 a.x15 a.x16 xs0).2.1 (KJ a (H0 arg20 f) 4) := by
  unfold runB
  dsimp only
  rw [zb_eq, zg_eq]
  exact rd4 a c arg2 harg2 arg3 harg3 arg4 harg4 arg20 f

end RunB

end Cert.KernelIdeal.Gen

end
-- ==== Proof.KDat.lean ====
module

public import proofs.«01_k».proof.Proof.KLaunch
public import proofs.«01_k».proof.Proof.KRunA
public import proofs.«01_k».proof.Proof.KRunB
public import Idealize.ShloMosaic.Lib.Claim

/-! The kernel's run over the ideal values: what each grid point leaves, and the launch at that. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Layer

local notation "𝕄" => MT nD τ sig Unit (Elt Ideal) ℕ (UR sig nD τ) ℕ

variable (m : (ℓ : Loc nD τ sig) → Buf (Elt Ideal) ℓ) (ρ : Dev nD → PrngReg)

/-- What point `t` reads. -/
def args (c : Dev nD) (t : Fin cfg0.N) : Args :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t⟩

/-- The carried buffer after a point: its tile, and the tile's last 32 rows as the next point's halo. -/
def carry (a : Args) : Vec Ideal S4x544x128 .f32 := fun y => KJ a (fun _ _ _ => 0) 4 (y 0) (y 1) (y 2)

/-- The carried buffer before point `t`, where the point reads it. -/
def halo (c : Dev nD) (t : Fin cfg0.N) : Contents3 := fun g ρ l =>
  if t.val % 16 = 0 then 0 else carry (args m c ⟨t.val - 1, by omega⟩) (ix3 g ρ l)

/-- The result tile of point `t`. -/
def tileOut (c : Dev nD) (t : Fin cfg0.N) : Vec Ideal S1x512x1024 .f32 := fun y =>
  tile (args m c t).w (args m c t).X (hbOf (args m c t) (halo m c t)) (y 1) (y 2)

/-- What is known of the carried buffer before point `n`: at a sequence's first tile, nothing. -/
def Known (c : Dev nD) (n : ℕ) (d : Vec Ideal S4x544x128 .f32) : Prop :=
  ∀ h : n - 1 < cfg0.N, n % 16 ≠ 0 → d = carry (args m c ⟨n - 1, h⟩)

theorem KJ_four (a : Args) (h0 : Contents3) : (fun y : S4x544x128.Idx => KJ a h0 4 (y 0) (y 1) (y 2)) = carry a := by
  funext y
  have h : (y 0).val < 4 := (y 0).2
  unfold carry KJ
  by_cases hy : (y 1).val < 32
  · rw [if_pos hy, if_pos hy, if_pos h, if_pos h]
  · rw [if_neg hy, if_neg hy]

theorem hbOf_congr (a : Args) {h0 h1 : Contents3} (h : ∀ g ρ l, ρ.val < 32 → h0 g ρ l = h1 g ρ l) : hbOf a h0 = hbOf a h1 := by
  funext ρ c
  unfold hbOf KJ
  by_cases hρ : ρ.val < 32
  · rw [if_pos hρ, if_pos hρ, if_neg (Nat.not_lt_zero _), if_neg (Nat.not_lt_zero _), h _ _ _ hρ]
  · rw [if_neg hρ, if_neg hρ]

theorem RunA.H0_at (arg20 : Memref sig .tc .vmem S4x544x128 .f32) (f : arg20.view.ty.Contents (Elt Ideal)) (g : Fin 4) (ρ : Fin 544)
    (l : Fin 128) (hρ : ρ.val < 32) : RunA.H0 arg20 f g ρ l = 0 := by
  unfold RunA.H0 RunA.L0
  refine (View.read_writes_cons_unit_of_mem arg20.view f inb_S4x544x128_S4x32x128_0_0_0 _ [] (ix3 g ρ l) (ix3 g ⟨ρ, hρ⟩ l) rfl fun x => ?_).trans ?_
  · match x with
    | ⟨0, _⟩ => show g.val = 0 + g.val; omega
    | ⟨1, _⟩ => show ρ.val = 0 + ρ.val; omega
    | ⟨2, _⟩ => show l.val = 0 + l.val; omega
  · pointwise [k0_pay62]

theorem RunB.H0_at (arg20 : Memref sig .tc .vmem S4x544x128 .f32) (h20 : arg20.IsWhole) (d : Vec Ideal S4x544x128 .f32) (g : Fin 4)
    (ρ : Fin 544) (l : Fin 128) : RunB.H0 arg20 (h20.unread d) g ρ l = d (ix3 g ρ l) := by
  unfold RunB.H0 RunB.L0
  exact congrFun (h20.read_unread d) _

/-- At every point the body runs, and leaves the point's result tile and the point's carried buffer. -/
theorem exists_run (t : Fin cfg0.N) (c : Dev nD) (arg2 : Memref sig .tc .vmem S1x512x1024 .f32) (harg2 : arg2.IsWhole) (arg3 : Memref sig .tc .vmem S1x1024 .f32) (harg3 : arg3.IsWhole) (arg4 : Memref sig .tc .vmem S1024x2048 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S4x128x128 .f32) (harg7 : arg7.IsWhole) (arg8 : Memref sig .tc .vmem S128x512 .f32) (harg8 : arg8.IsWhole) (arg9 : Memref sig .tc .vmem S31x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x2816 .bf16) (harg15 : arg15.IsWhole) (arg16 : Memref sig .tc .vmem S1024x2816 .bf16) (harg16 : arg16.IsWhole) (arg17 : Memref sig .tc .vmem S2816x1024 .bf16) (harg17 : arg17.IsWhole) (arg18 : Memref sig .tc .vmem S1x1024 .f32) (harg18 : arg18.IsWhole) (arg19 : Memref sig .tc .vmem S1x512x1024 .f32) (harg19 : arg19.IsWhole) (arg20 : Memref sig .tc .vmem S4x544x128 .f32) (harg20 : arg20.IsWhole) (arg21 : Memref sig .tc .vmem S512x512 .f32) (harg21 : arg21.IsWhole) (arg22 : Memref sig .tc .vmem S512x1024 .bf16) (harg22 : arg22.IsWhole) (d : Vec Ideal S4x544x128 .f32) (hd : Known m c t.val d) :
    ∃ LO LS, Run c t arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (args m c t).x0 (args m c t).x1 (args m c t).x2 (args m c t).x3 (args m c t).x4 (args m c t).x5 (args m c t).x6 (args m c t).x7 (args m c t).x8 (args m c t).x9 (args m c t).x10 (args m c t).x11 (args m c t).x12 (args m c t).x13 (args m c t).x14 (args m c t).x15 (args m c t).x16 d LO LS
      ∧ (∀ g f, arg19.view.read (Elt Ideal) (arg19.view.writes (Elt Ideal) f (LO g)) = tileOut m c t)
      ∧ ∀ f, arg20.view.read (Elt Ideal) (arg20.view.writes (Elt Ideal) f LS) = carry (args m c t) := by
  by_cases h0 : t.val % 16 = 0
  · refine ⟨_, _, (runA c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 ((cond0_iff t).mpr h0) (args m c t).x0 (args m c t).x1 (args m c t).x2 (args m c t).x3 (args m c t).x4 (args m c t).x5 (args m c t).x6 (args m c t).x7 (args m c t).x8 (args m c t).x9 (args m c t).x10 (args m c t).x11 (args m c t).x12 (args m c t).x13 (args m c t).x14 (args m c t).x15 (args m c t).x16 d).2.2, fun g f => ?_, fun f => ?_⟩
    · funext y
      rw [eq_ix3 y, Subsingleton.elim (α := Fin 1) (y 0) 0]
      refine (RunA.out_eq (args m c t) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 ((cond0_iff t).mpr h0) d g arg19.view f (y 1) (y 2)).trans ?_
      rw [hbOf_congr (args m c t) fun g ρ l hρ => (RunA.H0_at arg20 _ g ρ l hρ).trans (if_pos h0 : halo m c t g ρ l = 0).symm]
      rfl
    · rw [← KJ_four]
      funext y
      rw [eq_ix3 y]
      exact RunA.hbuf_eq (args m c t) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 ((cond0_iff t).mpr h0) d f (y 0) (y 1) (y 2)
  · refine ⟨_, _, (runB c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fun h => h0 ((cond0_iff t).mp h)) (args m c t).x0 (args m c t).x1 (args m c t).x2 (args m c t).x3 (args m c t).x4 (args m c t).x5 (args m c t).x6 (args m c t).x7 (args m c t).x8 (args m c t).x9 (args m c t).x10 (args m c t).x11 (args m c t).x12 (args m c t).x13 (args m c t).x14 (args m c t).x15 (args m c t).x16 d).2.2, fun g f => ?_, fun f => ?_⟩
    · funext y
      rw [eq_ix3 y, Subsingleton.elim (α := Fin 1) (y 0) 0]
      refine (RunB.out_eq (args m c t) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fun h => h0 ((cond0_iff t).mp h)) d g arg19.view f (y 1) (y 2)).trans ?_
      rw [hbOf_congr (args m c t) fun g ρ l hρ => (RunB.H0_at arg20 harg20 d g ρ l).trans
        ((congrFun (hd (by omega) h0) _).trans (if_neg h0 : halo m c t g ρ l = _).symm)]
      rfl
    · rw [← KJ_four]
      funext y
      rw [eq_ix3 y]
      exact RunB.hbuf_eq (args m c t) c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 (fun h => h0 ((cond0_iff t).mp h)) d f (y 0) (y 1) (y 2)

theorem known_succ (c : Dev nD) (t : Fin cfg0.N) : Known m c (t.val + 1) (carry (args m c t)) := fun _ _ => rfl

set_option maxHeartbeats 4000000 in
/-- The body at every point, from the carried buffer as known there. -/
theorem steps_value : Launch.Steps m (tileOut m) (Known m) false := by
  intro t c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 d hd
  obtain ⟨LO, LS, R, hO, hS⟩ := exists_run m t c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 d hd
  refine ⟨LO, LS, ?_, fun _ => hO, fun f => ?_⟩
  · exact R
  · rw [hS f]
    exact known_succ m c t

/-- The pipeline's proof data: each input's buffer at its block, the result's at the point's tile. -/
abbrev dats := Launch.dats m (tileOut m) (Known m)

theorem A_eq (c : Dev nD) (w : Fin cfg0.W) : (dats m 0 c).A w = V m c (Pipeline.arrRef spec0 w) := Launch.A_eq m _ _ c w

theorem after0_17 (c : Dev nD) (t : Fin cfg0.N) : (dats m 0 c).after 17 t = tileOut m c t := Launch.after0_17 m _ _ c t

/-- The launch: every window's array at what the proof data leaves in it. -/
theorem run_main : θ_run defs (onTc (τ := τ) (main (F := Ideal))) (s₀ m ρ) (Pipeline.FramePost cfgs (dats m) 0 (V m)) :=
  Launch.run_kept m ρ _ _ (fun _ _ _ h => absurd rfl h) (steps_value m)

end Cert.KernelIdeal.Gen

end
-- ==== Proof.KVal.lean ====
module

public import proofs.«01_k».proof.Proof.KDat
public import Idealize.ShloMosaic.Lib.Pipeline.ValueKit.Point
public import Idealize.ShloMosaic.Lib.Pointwise

/-! What the grid's points read, in terms of the kernel's arguments. -/

@[expose] public section

set_option maxRecDepth 16384

noncomputable section

namespace Cert.KernelIdeal.Gen

open Idealize.ShloMosaic Idealize.ShloMosaic.TcCoe
open Cert.Layer

variable (m : (ℓ : Loc nD τ sig) → Buf (Elt Ideal) ℓ) (ρ : Dev nD → PrngReg)

/-- An argument as launched. -/
abbrev arg (c : Dev nD) (b : Ref sig .tc) : Buf (Elt Ideal) ((c : Thread nD τ).loc b) := m ((c : Thread nD τ).loc b)

/-- The weights the kernel is given. -/
def kw (c : Dev nD) : Weights where
  n1 k := arg m c main_arg1 (ix1 k)
  win k j := arg m c main_arg2 (ix2 k j)
  alg k := arg m c main_arg3 (ix1 k)
  alb k := arg m c main_arg4 (ix1 k)
  ws h i k := arg m c main_arg5 (ix3 h i k)
  bs c' i := arg m c main_arg6 (ix2 ⟨c' / 128, by omega⟩ i)
  cw k c' := arg m c main_arg7 (ix2 k c')
  cb k := arg m c main_arg8 (ix1 k)
  clg k := arg m c main_arg9 (ix1 k)
  clb k := arg m c main_arg10 (ix1 k)
  wout k j := arg m c main_arg11 (ix2 k j)
  n2 k := arg m c main_arg12 (ix1 k)
  wg k j := arg m c main_arg13 (ix2 k j)
  wu k j := arg m c main_arg14 (ix2 k j)
  wd k j := arg m c main_arg15 (ix2 k j)
  fn k := arg m c main_arg16 (ix1 k)

/-- The rows the kernel is given. -/
def kx (c : Dev nD) (b : Fin 2) (s : Fin 8192) (j : Fin 1024) : EReal := arg m c main_arg0 (ix3 b s j)

theorem e0 : ∀ t : Fin cfg0.N, win0_0.index t = ![t.val / 16, t.val % 16, 0] := (by decide +kernel : ∀ t : Fin grid0.N, _)
theorem e17 : ∀ t : Fin cfg0.N, win0_17.index t = ![t.val / 16, t.val % 16, 0] := (by decide +kernel : ∀ t : Fin grid0.N, _)

theorem point_lt (t : Fin cfg0.N) : t.val < 32 := Nat.lt_of_lt_of_eq t.isLt N_0

/-- The tile's rows are the rows of its stretch of the sequence. -/
theorem X_at (c : Dev nD) (t : Fin cfg0.N) (r : Fin 512) (j : Fin 1024) :
    (args m c t).X r j = kx m c ⟨t.val / 16, by have := point_lt t; omega⟩ ⟨512 * (t.val % 16) + r, by omega⟩ j := by
  show iblk m c 0 t (ix3 (0 : Fin 1) r j) = m ((c : Thread nD τ).loc main_arg0) _
  rw [← V_main_arg0 m c]
  blk_simp [iblk]
  blk_ext [e0]

/-- The windows that hold the weights stay at their only block. -/
theorem eW : ∀ t : Fin cfg0.N, (win0_1.index t = ![0, 0] ∧ win0_2.index t = ![0, 0] ∧ win0_3.index t = ![0, 0] ∧ win0_4.index t = ![0, 0]) ∧
    (win0_5.index t = ![0, 0, 0] ∧ win0_6.index t = ![0, 0] ∧ win0_7.index t = ![0, 0] ∧ win0_8.index t = ![0, 0]) ∧
    (win0_9.index t = ![0, 0] ∧ win0_10.index t = ![0, 0] ∧ win0_11.index t = ![0, 0] ∧ win0_12.index t = ![0, 0]) ∧
    (win0_13.index t = ![0, 0] ∧ win0_14.index t = ![0, 0] ∧ win0_15.index t = ![0, 0] ∧ win0_16.index t = ![0, 0]) :=
  (by decide +kernel : ∀ t : Fin grid0.N, _)

set_option maxHeartbeats 4000000 in
/-- Every point reads the same weights: the kernel's. -/
theorem w_at (c : Dev nD) (t : Fin cfg0.N) : (args m c t).w = kw m c := by
  obtain ⟨⟨e1, e2, e3, e4⟩, ⟨e5, e6, e7, e8⟩, ⟨e9, e10, e11, e12⟩, e13, e14, e15, e16⟩ := eW t
  unfold args Args.w kw arg
  dsimp only
  congr 1 <;> funext _ <;> try funext _
  all_goals try funext _
  all_goals blk_ext! [iblk, V, e1, e2, e3, e4, e5, e6, e7, e8, e9, e10, e11, e12, e13, e14, e15, e16]

/-- The gated half of a tile's row, over natural coordinates, as the layer has it 30 rows down. -/
theorem gn_at (c : Dev nD) (t : Fin cfg0.N) (r : ℕ) (hr : r < 512) (q : Fin 512) :
    gn (args m c t) r q = hp (kw m c) (kx m c) ⟨t.val / 16, by have := point_lt t; omega⟩ (512 * (t.val % 16) + r + 30) q := by
  have ht := point_lt t
  rw [hp, dif_pos (by omega), ← w_at m c t]
  refine (gn_eq (args m c t) ⟨r, hr⟩ q).trans (congrArg (glu _ · q) (funext fun j => ?_))
  rw [X_at]
  congr 1

/-- The convolution's input of a tile: the rows of the tile and the 30 before. -/
theorem hb_at (c : Dev nD) (t : Fin cfg0.N) (r : Fin 512) (k : Fin 31) (q : Fin 512) :
    hbOf (args m c t) (halo m c t) ⟨2 + k + r, by omega⟩ q
      = hp (kw m c) (kx m c) ⟨t.val / 16, by have := point_lt t; omega⟩ (k + (512 * (t.val % 16) + r)) q := by
  have ht := point_lt t
  have eq : 128 * (q.val / 128) + q.val % 128 = q.val := by omega
  unfold hbOf KJ
  dsimp only
  rw [if_neg (Nat.not_lt_zero _)]
  split
  next h =>
    unfold halo
    split
    next h0 => rw [hp, dif_neg (by omega)]
    next h0 =>
      show KJ (args m c ⟨t.val - 1, _⟩) (fun _ _ _ => 0) 4 ⟨q.val / 128, by omega⟩ ⟨2 + k.val + r.val, by omega⟩
        ⟨q.val % 128, by omega⟩ = _
      unfold KJ
      dsimp only
      rw [if_pos h, if_pos (by omega), eq, gn_at m c _ _ (by omega)]
      congr 1
      · exact Fin.ext (by show (t.val - 1) / 16 = t.val / 16; omega)
      · show 512 * ((t.val - 1) % 16) + (480 + (2 + k.val + r.val)) + 30 = k.val + (512 * (t.val % 16) + r.val)
        omega
  next h =>
    rw [eq, gn_at m c _ _ (by omega)]
    congr 1
    omega

/-- A tile's output is the layer's at its rows. -/
theorem layer_at (c : Dev nD) (t : Fin cfg0.N) (r : Fin 512) (j : Fin 1024) :
    tile (args m c t).w (args m c t).X (hbOf (args m c t) (halo m c t)) r j
      = layer (kw m c) (kx m c) ⟨t.val / 16, by have := point_lt t; omega⟩ ⟨512 * (t.val % 16) + r, by omega⟩ j := by
  have ht := point_lt t
  unfold tile layer
  rw [w_at]
  have eX : ∀ r, (args m c t).X r = kx m c ⟨t.val / 16, by omega⟩ ⟨512 * (t.val % 16) + r, by omega⟩ :=
    fun r => funext fun j => X_at m c t r j
  have eb : (fun k : Fin 31 => hbOf (args m c t) (halo m c t) ⟨2 + k + r, by omega⟩)
      = fun k : Fin 31 => hp (kw m c) (kx m c) ⟨t.val / 16, by omega⟩ (k + (512 * (t.val % 16) + r)) :=
    funext fun k => funext fun q => hb_at m c t r k q
  rw [eb, eX r]
  have ek : (fun k : Fin 128 => (args m c t).X ⟨r / 128 * 128 + k, by omega⟩)
      = fun k : Fin 128 => kx m c ⟨t.val / 16, by omega⟩ ⟨(512 * (t.val % 16) + r) / 128 * 128 + k, by omega⟩ :=
    funext fun k => (eX _).trans (congrArg (kx m c _) (Fin.ext (by
      show 512 * (t.val % 16) + (r.val / 128 * 128 + k.val) = (512 * (t.val % 16) + r.val) / 128 * 128 + k.val
      omega)))
  have em : (⟨r % 128, by omega⟩ : Fin 128) = ⟨(512 * (t.val % 16) + r) % 128, by omega⟩ :=
    Fin.ext (by show r.val % 128 = (512 * (t.val % 16) + r.val) % 128; omega)
  rw [ek, em]

/-- What the launch leaves in the result. -/
def out (c : Dev nD) : S2x8192x1024.Idx → EReal := fun y => layer (kw m c) (kx m c) (y 0) (y 1) (y 2)

theorem final (c : Dev nD) : (dats m 0 c).arrAt 17 cfg0.N = out m c := by
  refine (dats m 0 c).arrAt_eq_of_covers 17 _ (by decide +kernel) fun t hf y => ?_
  blk_simp
  rw [after0_17]
  refine (layer_at m c t (y 1) (y 2)).trans ?_
  unfold out
  have ht := point_lt t
  idx_bounds y
  congr 1 <;> refine Fin.ext ?_ <;> blk_simp [e17] <;> dsimp only <;> omega

end Cert.KernelIdeal.Gen

end
-- ==== Proof.RefVal.lean ====
module

public import proofs.«01_k».proof.Proof.Gen.ReferenceIdeal.Run
public import proofs.«01_k».proof.Proof.Spec
public import Idealize.ShloMosaic.Lib.Pointwise
public import Idealize.ShloMosaic.Lib.Tactic.CleanTypes

/-! The reference's result is the layer: its named terms read at an index, one after the other. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo
open Cert.Layer

variable (V0 : Valuation τ sig (Elt Ideal))

/-- The weights the reference is given. -/
def wts : Weights where
  n1 k := V0 (Proc.devRef .tc main_arg1) (ix1 k)
  win k j := V0 (Proc.devRef .tc main_arg2) (ix2 k j)
  alg k := V0 (Proc.devRef .tc main_arg3) (ix1 k)
  alb k := V0 (Proc.devRef .tc main_arg4) (ix1 k)
  ws h i k := V0 (Proc.devRef .tc main_arg5) (ix3 h i k)
  bs c i := V0 (Proc.devRef .tc main_arg6) (ix2 ⟨c / 128, by omega⟩ i)
  cw k c := V0 (Proc.devRef .tc main_arg7) (ix2 k c)
  cb k := V0 (Proc.devRef .tc main_arg8) (ix1 k)
  clg k := V0 (Proc.devRef .tc main_arg9) (ix1 k)
  clb k := V0 (Proc.devRef .tc main_arg10) (ix1 k)
  wout k j := V0 (Proc.devRef .tc main_arg11) (ix2 k j)
  n2 k := V0 (Proc.devRef .tc main_arg12) (ix1 k)
  wg k j := V0 (Proc.devRef .tc main_arg13) (ix2 k j)
  wu k j := V0 (Proc.devRef .tc main_arg14) (ix2 k j)
  wd k j := V0 (Proc.devRef .tc main_arg15) (ix2 k j)
  fn k := V0 (Proc.devRef .tc main_arg16) (ix1 k)

/-- The rows the reference is given. -/
def xs (b : Fin 2) (s : Fin 8192) (j : Fin 1024) : EReal := V0 (Proc.devRef .tc main_arg0) (ix3 b s j)

theorem v13_at (b : Fin 2) (s : Fin 8192) (j : Fin 2048) : res_main_v13 V0 (ix3 b s j) = zrow (wts V0) (xs V0 b s) j := by
  unfold res_main_v13
  clean_types
  pointwise
  rfl

theorem v28_at (b : Fin 2) (s : Fin 8192) (j : Fin 1024) : res_main_v28 V0 (ix3 b s j) = uv (wts V0) (xs V0 b s) j := by
  unfold res_main_v28 res_main_v14
  clean_types
  pointwise [v13_at]
  unfold uv gelu
  rw [mul_assoc (zrow _ _ _) (zrow _ _ _) (zrow _ _ _)]

theorem v36_at (b : Fin 2) (s : Fin 8192) (j : Fin 512) : res_main_v36 V0 (ix3 b s j)
    = uv (wts V0) (xs V0 b s) ⟨512 + j, by omega⟩ - mean fun c => uv (wts V0) (xs V0 b s) ⟨512 + c, by omega⟩ := by
  unfold res_main_v36 res_main_v30
  clean_types
  pointwise [v28_at]
  rfl

/-- Division of a position by the chunk's length, as the host spells it. -/
theorem v55_at (s : Fin 128) : res_main_v55 V0 (ix1 s) = BitVec.ofNat 32 (s / 64) := by
  unfold res_main_v55 res_main_call0_v2 res_main_v54 res_main_call0_v0
  clean_types
  pointwise
  revert s
  decide +kernel

theorem v80_at (b : Fin 2) (s : Fin 8222) (j : Fin 512) : res_main_v80 V0 (ix3 b s j) = hp (wts V0) (xs V0) b s j := by
  unfold res_main_v80 res_main_v15
  clean_types
  pointwise [v13_at]
  unfold hp glu
  split
  · rfl
  · show (((0#32 : BitVec 32).toInt : ℝ) : EReal) = 0
    simp

/-- The convolution's row. -/
def cv (b : Fin 2) (s : Fin 8192) (j : Fin 512) : EReal :=
  (∑ k : Fin 31, hp (wts V0) (xs V0) b (k + s) j * (wts V0).cw k j) + (wts V0).cb j

theorem v301_at (b : Fin 2) (s : Fin 8192) (j : Fin 512) : res_main_v301 V0 (ix3 b s j) = cv V0 b s j := by
  unfold res_main_v301 res_main_v235 res_main_v158
  clean_types
  pointwise [v80_at]
  rw [cv, sum31]
  simp only [Fin.val_zero, zero_add]
  rfl

theorem v307_at (b : Fin 2) (s : Fin 8192) (j : Fin 512) :
    res_main_v307 V0 (ix3 b s j) = cv V0 b s j - mean (cv V0 b s) := by
  unfold res_main_v307
  clean_types
  pointwise [v301_at]
  rfl

theorem v323_at (b : Fin 2) (s : Fin 8192) (j : Fin 512) :
    res_main_v323 V0 (ix3 b s j) = ln (cv V0 b s) (wts V0).clg (wts V0).clb j := by
  unfold res_main_v323
  clean_types
  pointwise [v307_at]
  rfl

theorem v327_at (b : Fin 2) (s : Fin 8192) (j : Fin 1024) : res_main_v327 V0 (ix3 b s j)
    = h1 (wts V0) (xs V0 b s) (mix (ya (wts V0) (fun k => xs V0 b ⟨s / 128 * 128 + k, by omega⟩) ⟨s % 128, by omega⟩)
        (yb (wts V0) fun k => hp (wts V0) (xs V0) b (k + s))) j := by
  unfold res_main_v327
  clean_types
  pointwise [v323_at, v28_at, v55_at, v36_at]
  refine Eq.trans ?_ (h1_mix (wts V0) (xs V0 b s) (ya (wts V0) (fun k => xs V0 b ⟨s / 128 * 128 + k, by omega⟩) ⟨s % 128, by omega⟩)
        (yb (wts V0) fun k => hp (wts V0) (xs V0) b (k + s)) j).symm
  refine congrArg (xs V0 b s j + ·) (congrArg₂ (· + ·) (Finset.sum_congr rfl fun x _ => ?_) rfl)
  refine congrArg (· * (wts V0).wout ⟨x, by omega⟩ j) ?_
  simp only [Nat.div_add_mod', Fin.eta]
  unfold ya sg
  simp only [Nat.div_add_mod', Fin.eta]
  refine congrArg (uv (wts V0) (xs V0 b s) ⟨x, by omega⟩ * ·) (congrArg₂ (· + ·) (Finset.sum_congr rfl fun k _ => ?_) rfl)
  rw [sel_le _ _ (Nat.mod_lt _ (by norm_num)) k.2, mul_comm]
  rfl

theorem v340_at (b : Fin 2) (s : Fin 8192) (j : Fin 1024) : res_main_v340 V0 (ix3 b s j)
    = rms (fun j => res_main_v327 V0 (ix3 b s j)) (wts V0).n2 j := by
  unfold res_main_v340
  clean_types
  pointwise
  rfl

theorem v346_at (b : Fin 2) (s : Fin 8192) (j : Fin 1024) : res_main_v346 V0 (ix3 b s j)
    = h2 (wts V0) (fun j => res_main_v327 V0 (ix3 b s j)) j := by
  unfold res_main_v346 res_main_v341
  clean_types
  pointwise [v340_at]
  rfl

/-- The reference's result, from its last named term. -/
def result : FVec Ideal S2x8192x1024 .f32 :=
  mulf (mulf (res_main_v346 V0) (broadcastInDim S2x8192x1024 ![0, 1, 2] bcast_S2x8192x1_S2x8192x1024_0_1_2
    (Host.rsqrt (addf (Host.divf (broadcastInDim S2x8192x1 ![0, 1] bcast_S2x8192_S2x8192x1_0_1
      (Host.reduceAdd (mulf (res_main_v346 V0) (res_main_v346 V0)) (constant S_ .f32 0x00000000#32)
        reducesTo_S2x8192x1024_S2x8192_d2 h_S_)) (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![2] bcast_S1024_S1x1x1024_2 (V0 (Proc.devRef .tc main_arg16))))

/-- The reference's result at an index. -/
theorem ref_at (b : Fin 2) (s : Fin 8192) (j : Fin 1024) :
    result V0 (ix3 b s j) = layer (wts V0) (xs V0) b s j := by
  unfold result
  clean_types
  pointwise [v346_at]
  have e : (fun j => res_main_v327 V0 (ix3 b s j)) = h1 (wts V0) (xs V0 b s)
      (mix (ya (wts V0) (fun k => xs V0 b ⟨s / 128 * 128 + k, by omega⟩) ⟨s % 128, by omega⟩)
        (yb (wts V0) fun k => hp (wts V0) (xs V0) b (k + s))) := funext fun j => v327_at V0 b s j
  rw [e]
  rfl

end Cert.ReferenceIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KVal
public import proofs.«01_k».proof.Proof.RefVal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- From arguments that agree, the reference's result is the layer of the kernel's arguments. -/
theorem result_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (hw : Cert.ReferenceIdeal.Value.wts V0 = Cert.KernelIdeal.Gen.kw m c)
    (hx : Cert.ReferenceIdeal.Value.xs V0 = Cert.KernelIdeal.Gen.kx m c) :
    Cert.ReferenceIdeal.Value.result V0 = Cert.KernelIdeal.Gen.out m c := by
  funext y
  refine (congrArg (Cert.ReferenceIdeal.Value.result V0) (eq_ix3 y)).trans
    ((Cert.ReferenceIdeal.Value.ref_at V0 (y 0) (y 1) (y 2)).trans ?_)
  rw [hw, hx]
  rfl

/-- The two programs have the same text, so the same definitions. -/
theorem defs_eq : Cert.Kernel.defs (F := Bits) = Cert.KernelIdeal.defs (F := Bits) := by sl_kernel_rfl

theorem frame_k : Cert.quiescent_Kernel := by
  intro m ρ _
  rw [defs_eq]
  exact Cert.KernelIdeal.Gen.frame (F := Bits) m ρ

theorem frame_ki : Cert.quiescent_KernelIdeal := fun m ρ _ => Cert.KernelIdeal.Gen.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.KernelIdeal.Gen.out m c, ?_, ?_⟩
  · exact (θ_run Cert.KernelIdeal.defs _ _).mono
      (fun _ h c => ⟨((h.1 c).1 17).trans (Cert.KernelIdeal.Gen.final m c), h.2 c⟩)
      (θ_run_and (Cert.KernelIdeal.Gen.run_main m ρ)
        (Cert.KernelIdeal.Gen.frame_of m ρ (Cert.KernelIdeal.Gen.dats m) (Cert.KernelIdeal.Gen.A_eq m)
          (Cert.KernelIdeal.Gen.run_main m ρ)))
  · refine (θ_run Cert.ReferenceIdeal.defs _ _).mono (fun _ h c => ⟨(h c).1.trans (?_ : _ = _), (h c).2⟩)
      (Cert.ReferenceIdeal.Value.run (F := Ideal) m' ρ')
    obtain ⟨h0, h1, h2, h3, h4, h5, h6, h7, h8, h9, h10, h11, h12, h13, h14, h15, h16⟩ := hagree c
    refine result_eq m (StableHlo.launchContents m' c) c ?_ ?_
    · unfold Cert.ReferenceIdeal.Value.wts Cert.KernelIdeal.Gen.kw Cert.KernelIdeal.Gen.arg
      rw [← h1, ← h2, ← h3, ← h4, ← h5, ← h6, ← h7, ← h8, ← h9, ← h10, ← h11, ← h12, ← h13, ← h14, ← h15, ← h16]
    · unfold Cert.KernelIdeal.Gen.kx Cert.KernelIdeal.Gen.arg
      rw [← h0]
      rfl

theorem claim : Cert.Claim := ⟨Cert.Kernel.Gen.facts, Cert.KernelIdeal.Gen.facts, Cert.ReferenceIdeal.Gen.facts,
  frame_k, frame_ki, frame_ri, preserves, algebraic⟩

end Cert.Proof

end
